-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "third" .f32 0x3EAAAAAB#32 ((1 / 3 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x32x32x32x16 : Shape := ⟨5, ![4, 32, 32, 32, 16]⟩
abbrev S3x3x32x4x4 : Shape := ⟨5, ![3, 3, 32, 4, 4]⟩
abbrev S32x4x4 : Shape := ⟨3, ![32, 4, 4]⟩
abbrev S16 : Shape := ⟨1, ![16]⟩
abbrev S_ : Shape := ⟨0, ![]⟩

class Facts : Prop where
  bcast_S_S4x32x32x32x16 : S_.BroadcastsInDim S4x32x32x32x16 (![] : Fin 0 → Fin S4x32x32x32x16.rank)
  reducesTo_S4x32x32x32x16_S_d0_1_2_3_4 : S4x32x32x32x16.ReducesTo [0, 1, 2, 3, 4] S_
  h_S_ : 0 < S_.numel
  bcast_S_S3x3x32x4x4 : S_.BroadcastsInDim S3x3x32x4x4 (![] : Fin 0 → Fin S3x3x32x4x4.rank)
  reducesTo_S3x3x32x4x4_S_d0_1_2_3_4 : S3x3x32x4x4.ReducesTo [0, 1, 2, 3, 4] S_
  bcast_S_S32x4x4 : S_.BroadcastsInDim S32x4x4 (![] : Fin 0 → Fin S32x4x4.rank)
  reducesTo_S32x4x4_S_d0_1_2 : S32x4x4.ReducesTo [0, 1, 2] S_

variable [Facts]

def fn {F : FTy → Type} [FloatOps F] (main_arg0 : FVec F S4x32x32x32x16 .f32) (main_arg1 : FVec F S3x3x32x4x4 .f32) (main_arg2 : FVec F S32x4x4 .f32) (main_arg3 : FVec F S16 .f32) (main_arg4 : FVec F S16 .f32) : IVec S_ 1 :=
  let main_v0 : FVec F S4x32x32x32x16 .f32 := Host.absf main_arg0
  let main_cst : FVec F S_ .f32 := constant S_ .f32 0x7F800000#32
  let main_v1 : FVec F S4x32x32x32x16 .f32 := broadcastInDim S4x32x32x32x16 ![] bcast_S_S4x32x32x32x16 main_cst
  let main_v2 : IVec S4x32x32x32x16 1 := cmpf .olt main_v0 main_v1
  let main_c : IVec S_ 1 := constantI S_ 1 1#1
  let main_v3 : IVec S_ 1 := (fun x v => Host.reduce IntOp.andi x v reducesTo_S4x32x32x32x16_S_d0_1_2_3_4 h_S_) main_v2 main_c
  let main_v4 : FVec F S3x3x32x4x4 .f32 := Host.absf main_arg1
  let main_cst_0 : FVec F S_ .f32 := constant S_ .f32 0x7F800000#32
  let main_v5 : FVec F S3x3x32x4x4 .f32 := broadcastInDim S3x3x32x4x4 ![] bcast_S_S3x3x32x4x4 main_cst_0
  let main_v6 : IVec S3x3x32x4x4 1 := cmpf .olt main_v4 main_v5
  let main_c_1 : IVec S_ 1 := constantI S_ 1 1#1
  let main_v7 : IVec S_ 1 := (fun x v => Host.reduce IntOp.andi x v reducesTo_S3x3x32x4x4_S_d0_1_2_3_4 h_S_) main_v6 main_c_1
  let main_v8 : IVec S_ 1 := andi main_v3 main_v7
  let main_v9 : FVec F S32x4x4 .f32 := Host.absf main_arg2
  let main_cst_2 : FVec F S_ .f32 := constant S_ .f32 0x7F800000#32
  let main_v10 : FVec F S32x4x4 .f32 := broadcastInDim S32x4x4 ![] bcast_S_S32x4x4 main_cst_2
  let main_v11 : IVec S32x4x4 1 := cmpf .olt main_v9 main_v10
  let main_c_3 : IVec S_ 1 := constantI S_ 1 1#1
  let main_v12 : IVec S_ 1 := (fun x v => Host.reduce IntOp.andi x v reducesTo_S32x4x4_S_d0_1_2 h_S_) main_v11 main_c_3
  let main_v13 : IVec S_ 1 := andi main_v8 main_v12
  main_v13
-- ==== Kernel.lean ====
abbrev S4x32x32x32x16 : Shape := ⟨5, ![4, 32, 32, 32, 16]⟩
abbrev S3x3x32x4x4 : Shape := ⟨5, ![3, 3, 32, 4, 4]⟩
abbrev S32x4x4 : Shape := ⟨3, ![32, 4, 4]⟩
abbrev S16 : Shape := ⟨1, ![16]⟩
abbrev S_ : Shape := ⟨0, ![]⟩
abbrev S4x32x34x34x16 : Shape := ⟨5, ![4, 32, 34, 34, 16]⟩
abbrev S4x32x34x32x16 : Shape := ⟨5, ![4, 32, 34, 32, 16]⟩
abbrev S4x1x32x34x32x16 : Shape := ⟨6, ![4, 1, 32, 34, 32, 16]⟩
abbrev S4x3x32x34x32x16 : Shape := ⟨6, ![4, 3, 32, 34, 32, 16]⟩
abbrev S4x3x32x6x32x16 : Shape := ⟨6, ![4, 3, 32, 6, 32, 16]⟩
abbrev S4x1x3x32x6x32x16 : Shape := ⟨7, ![4, 1, 3, 32, 6, 32, 16]⟩
abbrev S4x8x3x32x6x32x16 : Shape := ⟨7, ![4, 8, 3, 32, 6, 32, 16]⟩
abbrev S32x3x32x6x32x16 : Shape := ⟨6, ![32, 3, 32, 6, 32, 16]⟩
abbrev S32x3x3x4x4 : Shape := ⟨5, ![32, 3, 3, 4, 4]⟩
abbrev S32x9x4x4 : Shape := ⟨4, ![32, 9, 4, 4]⟩
abbrev S4x4 : Shape := ⟨2, ![4, 4]⟩
abbrev S1x1x4x1x4x1 : Shape := ⟨6, ![1, 1, 4, 1, 4, 1]⟩
abbrev S32x9x1x4x1x4 : Shape := ⟨6, ![32, 9, 1, 4, 1, 4]⟩
abbrev S32x9x4x4x4x4 : Shape := ⟨6, ![32, 9, 4, 4, 4, 4]⟩
abbrev S32x3x3x16x16 : Shape := ⟨5, ![32, 3, 3, 16, 16]⟩
abbrev S32x3x1x16x16 : Shape := ⟨5, ![32, 3, 1, 16, 16]⟩
abbrev S32x3x16x16 : Shape := ⟨4, ![32, 3, 16, 16]⟩
abbrev S32x16x3x16 : Shape := ⟨4, ![32, 16, 3, 16]⟩
abbrev S32x16x48 : Shape := ⟨3, ![32, 16, 48]⟩
abbrev S1x32x16x48 : Shape := ⟨4, ![1, 32, 16, 48]⟩
abbrev S3x32x16x48 : Shape := ⟨4, ![3, 32, 16, 48]⟩
abbrev S96x16x48 : Shape := ⟨3, ![96, 16, 48]⟩
abbrev S4x1x1x4x1 : Shape := ⟨5, ![4, 1, 1, 4, 1]⟩
abbrev S4x32x4 : Shape := ⟨3, ![4, 32, 4]⟩
abbrev S1x4x32x1x4 : Shape := ⟨5, ![1, 4, 32, 1, 4]⟩
abbrev S4x4x32x4x4 : Shape := ⟨5, ![4, 4, 32, 4, 4]⟩
abbrev S16x512 : Shape := ⟨2, ![16, 512]⟩
abbrev S1x4x1x4x1 : Shape := ⟨5, ![1, 4, 1, 4, 1]⟩
abbrev S32x1x4x1x4 : Shape := ⟨5, ![32, 1, 4, 1, 4]⟩
abbrev S32x4x4x4x4 : Shape := ⟨5, ![32, 4, 4, 4, 4]⟩
abbrev S32x16x16 : Shape := ⟨3, ![32, 16, 16]⟩
abbrev S1x16 : Shape := ⟨2, ![1, 16]⟩
abbrev S1x3x32x6x32x16 : Shape := ⟨6, ![1, 3, 32, 6, 32, 16]⟩
abbrev S1x32x4x32x16 : Shape := ⟨5, ![1, 32, 4, 32, 16]⟩
abbrev S3x32x6x32x16 : Shape := ⟨5, ![3, 32, 6, 32, 16]⟩
abbrev S96x6x32x16 : Shape := ⟨4, ![96, 6, 32, 16]⟩
abbrev S96x6x32x48 : Shape := ⟨4, ![96, 6, 32, 48]⟩
abbrev S32x4x32x16 : Shape := ⟨4, ![32, 4, 32, 16]⟩
abbrev S32x1x128x16 : Shape := ⟨4, ![32, 1, 128, 16]⟩
abbrev S32x9x128x16 : Shape := ⟨4, ![32, 9, 128, 16]⟩
abbrev S288x128x16 : Shape := ⟨3, ![288, 128, 16]⟩
abbrev S128x16x288 : Shape := ⟨3, ![128, 16, 288]⟩
abbrev S128x16 : Shape := ⟨2, ![128, 16]⟩
abbrev S128x512 : Shape := ⟨2, ![128, 512]⟩
abbrev S128x32x16 : Shape := ⟨3, ![128, 32, 16]⟩
abbrev S128x32x288 : Shape := ⟨3, ![128, 32, 288]⟩
abbrev S128 : Shape := ⟨1, ![128]⟩
abbrev S128x1x1 : Shape := ⟨3, ![128, 1, 1]⟩
abbrev S128x32 : Shape := ⟨2, ![128, 32]⟩
abbrev S128x288 : Shape := ⟨2, ![128, 288]⟩
abbrev S128x1x288 : Shape := ⟨3, ![128, 1, 288]⟩
abbrev S128x32x1 : Shape := ⟨3, ![128, 32, 1]⟩
abbrev S32x16x128 : Shape := ⟨3, ![32, 16, 128]⟩
abbrev S1x1x16 : Shape := ⟨3, ![1, 1, 16]⟩
abbrev S4x32x32x16 : Shape := ⟨4, ![4, 32, 32, 16]⟩

abbrev nBuf : Space → Nat
  | .hbm => 130
  | .vmem => 9
  | .smem => 0
  | _ => 0

abbrev hbmTy0_0 (i : Nat) : BufTy := match i % 128 with
  | 0 => ⟨S4x32x32x32x16, .f32⟩
  | 1 => ⟨S3x3x32x4x4, .f32⟩
  | 2 => ⟨S32x4x4, .f32⟩
  | 3 => ⟨S16, .f32⟩
  | 4 => ⟨S16, .f32⟩
  | 5 => ⟨S_, .i32⟩
  | 6 => ⟨S_, .f32⟩
  | 7 => ⟨S4x32x34x34x16, .f32⟩
  | 8 => ⟨S4x32x34x32x16, .f32⟩
  | 9 => ⟨S4x32x34x32x16, .f32⟩
  | 10 => ⟨S4x32x34x32x16, .f32⟩
  | 11 => ⟨S4x1x32x34x32x16, .f32⟩
  | 12 => ⟨S4x1x32x34x32x16, .f32⟩
  | 13 => ⟨S4x1x32x34x32x16, .f32⟩
  | 14 => ⟨S4x3x32x34x32x16, .f32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S4x3x32x6x32x16, .f32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S4x3x32x6x32x16, .f32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S4x3x32x6x32x16, .f32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S4x3x32x6x32x16, .f32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S4x3x32x6x32x16, .f32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S4x3x32x6x32x16, .f32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S4x3x32x6x32x16, .f32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S4x3x32x6x32x16, .f32⟩
  | 71 => ⟨S4x1x3x32x6x32x16, .f32⟩
  | 72 => ⟨S4x1x3x32x6x32x16, .f32⟩
  | 73 => ⟨S4x1x3x32x6x32x16, .f32⟩
  | 74 => ⟨S4x1x3x32x6x32x16, .f32⟩
  | 75 => ⟨S4x1x3x32x6x32x16, .f32⟩
  | 76 => ⟨S4x1x3x32x6x32x16, .f32⟩
  | 77 => ⟨S4x1x3x32x6x32x16, .f32⟩
  | 78 => ⟨S4x1x3x32x6x32x16, .f32⟩
  | 79 => ⟨S4x8x3x32x6x32x16, .f32⟩
  | 80 => ⟨S32x3x32x6x32x16, .f32⟩
  | 81 => ⟨S32x3x3x4x4, .f32⟩
  | 82 => ⟨S32x9x4x4, .f32⟩
  | 83 => ⟨S4x4, .i32⟩
  | 84 => ⟨S4x4, .i32⟩
  | 85 => ⟨S_, .i32⟩
  | 86 => ⟨S4x4, .i32⟩
  | 87 => ⟨S4x4, .i32⟩
  | 88 => ⟨S4x4, .i1⟩
  | 89 => ⟨S4x4, .f32⟩
  | 90 => ⟨S1x1x4x1x4x1, .f32⟩
  | 91 => ⟨S32x9x1x4x1x4, .f32⟩
  | 92 => ⟨S32x9x4x4x4x4, .f32⟩
  | 93 => ⟨S32x9x4x4x4x4, .f32⟩
  | 94 => ⟨S32x9x4x4x4x4, .f32⟩
  | 95 => ⟨S32x3x3x16x16, .f32⟩
  | 96 => ⟨S32x3x1x16x16, .f32⟩
  | 97 => ⟨S32x3x16x16, .f32⟩
  | 98 => ⟨S32x16x3x16, .f32⟩
  | 99 => ⟨S32x16x48, .f32⟩
  | 100 => ⟨S32x3x1x16x16, .f32⟩
  | 101 => ⟨S32x3x16x16, .f32⟩
  | 102 => ⟨S32x16x3x16, .f32⟩
  | 103 => ⟨S32x16x48, .f32⟩
  | 104 => ⟨S32x3x1x16x16, .f32⟩
  | 105 => ⟨S32x3x16x16, .f32⟩
  | 106 => ⟨S32x16x3x16, .f32⟩
  | 107 => ⟨S32x16x48, .f32⟩
  | 108 => ⟨S1x32x16x48, .f32⟩
  | 109 => ⟨S1x32x16x48, .f32⟩
  | 110 => ⟨S1x32x16x48, .f32⟩
  | 111 => ⟨S3x32x16x48, .f32⟩
  | 112 => ⟨S96x16x48, .f32⟩
  | 113 => ⟨S32x4x4, .f32⟩
  | 114 => ⟨S4x1x1x4x1, .f32⟩
  | 115 => ⟨S4x32x4, .f32⟩
  | 116 => ⟨S1x4x32x1x4, .f32⟩
  | 117 => ⟨S4x4x32x4x4, .f32⟩
  | 118 => ⟨S4x4x32x4x4, .f32⟩
  | 119 => ⟨S4x4x32x4x4, .f32⟩
  | 120 => ⟨S16x512, .f32⟩
  | 121 => ⟨S1x4x1x4x1, .f32⟩
  | 122 => ⟨S32x1x4x1x4, .f32⟩
  | 123 => ⟨S32x4x4x4x4, .f32⟩
  | 124 => ⟨S32x4x4x4x4, .f32⟩
  | 125 => ⟨S32x4x4x4x4, .f32⟩
  | 126 => ⟨S32x16x16, .f32⟩
  | 127 => ⟨S1x16, .f32⟩
  | _ => ⟨S4x32x32x32x16, .f32⟩

abbrev hbmTy0_1 (i : Nat) : BufTy := match i % 128 with
  | 0 => ⟨S1x16, .f32⟩
  | 1 => ⟨S4x32x32x32x16, .f32⟩
  | _ => ⟨S4x32x32x32x16, .f32⟩

abbrev hbmTy (i : Nat) : BufTy := match i / 128 with
  | 0 => hbmTy0_0 i
  | 1 => hbmTy0_1 i
  | _ => ⟨S4x32x32x32x16, .f32⟩

abbrev bufTy : (tb : Table) → Fin (tcTables nBuf tb) → BufTy
  | .hbm, ⟨i, _⟩ => hbmTy i
  | .local _ .vmem, ⟨0, _⟩ => ⟨S1x3x32x6x32x16, .f32⟩
  | .local _ .vmem, ⟨1, _⟩ => ⟨S1x3x32x6x32x16, .f32⟩
  | .local _ .vmem, ⟨2, _⟩ => ⟨S96x16x48, .f32⟩
  | .local _ .vmem, ⟨3, _⟩ => ⟨S16x512, .f32⟩
  | .local _ .vmem, ⟨4, _⟩ => ⟨S32x16x16, .f32⟩
  | .local _ .vmem, ⟨5, _⟩ => ⟨S1x16, .f32⟩
  | .local _ .vmem, ⟨6, _⟩ => ⟨S1x16, .f32⟩
  | .local _ .vmem, ⟨7, _⟩ => ⟨S1x32x4x32x16, .f32⟩
  | .local _ .vmem, ⟨8, _⟩ => ⟨S1x32x4x32x16, .f32⟩
  | _, _ => ⟨S4x32x32x32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_call0_v0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_c_0 : Ref sig .tc := ⟨.hbm, 15, rfl⟩
abbrev main_call0_c_1 : Ref sig .tc := ⟨.hbm, 16, rfl⟩
abbrev main_call0_c_2 : Ref sig .tc := ⟨.hbm, 17, rfl⟩
abbrev main_call0_c_3 : Ref sig .tc := ⟨.hbm, 18, rfl⟩
abbrev main_call0_c_4 : Ref sig .tc := ⟨.hbm, 19, rfl⟩
abbrev main_call0_c_5 : Ref sig .tc := ⟨.hbm, 20, rfl⟩
abbrev main_call0_v8 : Ref sig .tc := ⟨.hbm, 21, rfl⟩
abbrev main_call0_c_6 : Ref sig .tc := ⟨.hbm, 22, rfl⟩
abbrev main_call0_c_7 : Ref sig .tc := ⟨.hbm, 23, rfl⟩
abbrev main_call0_c_8 : Ref sig .tc := ⟨.hbm, 24, rfl⟩
abbrev main_call0_c_9 : Ref sig .tc := ⟨.hbm, 25, rfl⟩
abbrev main_call0_c_10 : Ref sig .tc := ⟨.hbm, 26, rfl⟩
abbrev main_call0_c_11 : Ref sig .tc := ⟨.hbm, 27, rfl⟩
abbrev main_call0_v9 : Ref sig .tc := ⟨.hbm, 28, rfl⟩
abbrev main_call0_c_12 : Ref sig .tc := ⟨.hbm, 29, rfl⟩
abbrev main_call0_c_13 : Ref sig .tc := ⟨.hbm, 30, rfl⟩
abbrev main_call0_c_14 : Ref sig .tc := ⟨.hbm, 31, rfl⟩
abbrev main_call0_c_15 : Ref sig .tc := ⟨.hbm, 32, rfl⟩
abbrev main_call0_c_16 : Ref sig .tc := ⟨.hbm, 33, rfl⟩
abbrev main_call0_c_17 : Ref sig .tc := ⟨.hbm, 34, rfl⟩
abbrev main_call0_v10 : Ref sig .tc := ⟨.hbm, 35, rfl⟩
abbrev main_call0_c_18 : Ref sig .tc := ⟨.hbm, 36, rfl⟩
abbrev main_call0_c_19 : Ref sig .tc := ⟨.hbm, 37, rfl⟩
abbrev main_call0_c_20 : Ref sig .tc := ⟨.hbm, 38, rfl⟩
abbrev main_call0_c_21 : Ref sig .tc := ⟨.hbm, 39, rfl⟩
abbrev main_call0_c_22 : Ref sig .tc := ⟨.hbm, 40, rfl⟩
abbrev main_call0_c_23 : Ref sig .tc := ⟨.hbm, 41, rfl⟩
abbrev main_call0_v11 : Ref sig .tc := ⟨.hbm, 42, rfl⟩
abbrev main_call0_c_24 : Ref sig .tc := ⟨.hbm, 43, rfl⟩
abbrev main_call0_c_25 : Ref sig .tc := ⟨.hbm, 44, rfl⟩
abbrev main_call0_c_26 : Ref sig .tc := ⟨.hbm, 45, rfl⟩
abbrev main_call0_c_27 : Ref sig .tc := ⟨.hbm, 46, rfl⟩
abbrev main_call0_c_28 : Ref sig .tc := ⟨.hbm, 47, rfl⟩
abbrev main_call0_c_29 : Ref sig .tc := ⟨.hbm, 48, rfl⟩
abbrev main_call0_v12 : Ref sig .tc := ⟨.hbm, 49, rfl⟩
abbrev main_call0_c_30 : Ref sig .tc := ⟨.hbm, 50, rfl⟩
abbrev main_call0_c_31 : Ref sig .tc := ⟨.hbm, 51, rfl⟩
abbrev main_call0_c_32 : Ref sig .tc := ⟨.hbm, 52, rfl⟩
abbrev main_call0_c_33 : Ref sig .tc := ⟨.hbm, 53, rfl⟩
abbrev main_call0_c_34 : Ref sig .tc := ⟨.hbm, 54, rfl⟩
abbrev main_call0_c_35 : Ref sig .tc := ⟨.hbm, 55, rfl⟩
abbrev main_call0_v13 : Ref sig .tc := ⟨.hbm, 56, rfl⟩
abbrev main_call0_c_36 : Ref sig .tc := ⟨.hbm, 57, rfl⟩
abbrev main_call0_c_37 : Ref sig .tc := ⟨.hbm, 58, rfl⟩
abbrev main_call0_c_38 : Ref sig .tc := ⟨.hbm, 59, rfl⟩
abbrev main_call0_c_39 : Ref sig .tc := ⟨.hbm, 60, rfl⟩
abbrev main_call0_c_40 : Ref sig .tc := ⟨.hbm, 61, rfl⟩
abbrev main_call0_c_41 : Ref sig .tc := ⟨.hbm, 62, rfl⟩
abbrev main_call0_v14 : Ref sig .tc := ⟨.hbm, 63, rfl⟩
abbrev main_call0_c_42 : Ref sig .tc := ⟨.hbm, 64, rfl⟩
abbrev main_call0_c_43 : Ref sig .tc := ⟨.hbm, 65, rfl⟩
abbrev main_call0_c_44 : Ref sig .tc := ⟨.hbm, 66, rfl⟩
abbrev main_call0_c_45 : Ref sig .tc := ⟨.hbm, 67, rfl⟩
abbrev main_call0_c_46 : Ref sig .tc := ⟨.hbm, 68, rfl⟩
abbrev main_call0_c_47 : Ref sig .tc := ⟨.hbm, 69, rfl⟩
abbrev main_call0_v15 : Ref sig .tc := ⟨.hbm, 70, rfl⟩
abbrev main_call0_v16 : Ref sig .tc := ⟨.hbm, 71, rfl⟩
abbrev main_call0_v17 : Ref sig .tc := ⟨.hbm, 72, rfl⟩
abbrev main_call0_v18 : Ref sig .tc := ⟨.hbm, 73, rfl⟩
abbrev main_call0_v19 : Ref sig .tc := ⟨.hbm, 74, rfl⟩
abbrev main_call0_v20 : Ref sig .tc := ⟨.hbm, 75, rfl⟩
abbrev main_call0_v21 : Ref sig .tc := ⟨.hbm, 76, rfl⟩
abbrev main_call0_v22 : Ref sig .tc := ⟨.hbm, 77, rfl⟩
abbrev main_call0_v23 : Ref sig .tc := ⟨.hbm, 78, rfl⟩
abbrev main_call0_v24 : Ref sig .tc := ⟨.hbm, 79, rfl⟩
abbrev main_call0_v25 : Ref sig .tc := ⟨.hbm, 80, rfl⟩
abbrev main_call0_v26 : Ref sig .tc := ⟨.hbm, 81, rfl⟩
abbrev main_call0_v27 : Ref sig .tc := ⟨.hbm, 82, rfl⟩
abbrev main_call0_v28 : Ref sig .tc := ⟨.hbm, 83, rfl⟩
abbrev main_call0_v29 : Ref sig .tc := ⟨.hbm, 84, rfl⟩
abbrev main_call0_c_48 : Ref sig .tc := ⟨.hbm, 85, rfl⟩
abbrev main_call0_v30 : Ref sig .tc := ⟨.hbm, 86, rfl⟩
abbrev main_call0_v31 : Ref sig .tc := ⟨.hbm, 87, rfl⟩
abbrev main_call0_v32 : Ref sig .tc := ⟨.hbm, 88, rfl⟩
abbrev main_call0_v33 : Ref sig .tc := ⟨.hbm, 89, rfl⟩
abbrev main_call0_v34 : Ref sig .tc := ⟨.hbm, 90, rfl⟩
abbrev main_call0_v35 : Ref sig .tc := ⟨.hbm, 91, rfl⟩
abbrev main_call0_v36 : Ref sig .tc := ⟨.hbm, 92, rfl⟩
abbrev main_call0_v37 : Ref sig .tc := ⟨.hbm, 93, rfl⟩
abbrev main_call0_v38 : Ref sig .tc := ⟨.hbm, 94, rfl⟩
abbrev main_call0_v39 : Ref sig .tc := ⟨.hbm, 95, rfl⟩
abbrev main_call0_v40 : Ref sig .tc := ⟨.hbm, 96, rfl⟩
abbrev main_call0_v41 : Ref sig .tc := ⟨.hbm, 97, rfl⟩
abbrev main_call0_v42 : Ref sig .tc := ⟨.hbm, 98, rfl⟩
abbrev main_call0_v43 : Ref sig .tc := ⟨.hbm, 99, rfl⟩
abbrev main_call0_v44 : Ref sig .tc := ⟨.hbm, 100, rfl⟩
abbrev main_call0_v45 : Ref sig .tc := ⟨.hbm, 101, rfl⟩
abbrev main_call0_v46 : Ref sig .tc := ⟨.hbm, 102, rfl⟩
abbrev main_call0_v47 : Ref sig .tc := ⟨.hbm, 103, rfl⟩
abbrev main_call0_v48 : Ref sig .tc := ⟨.hbm, 104, rfl⟩
abbrev main_call0_v49 : Ref sig .tc := ⟨.hbm, 105, rfl⟩
abbrev main_call0_v50 : Ref sig .tc := ⟨.hbm, 106, rfl⟩
abbrev main_call0_v51 : Ref sig .tc := ⟨.hbm, 107, rfl⟩
abbrev main_call0_v52 : Ref sig .tc := ⟨.hbm, 108, rfl⟩
abbrev main_call0_v53 : Ref sig .tc := ⟨.hbm, 109, rfl⟩
abbrev main_call0_v54 : Ref sig .tc := ⟨.hbm, 110, rfl⟩
abbrev main_call0_v55 : Ref sig .tc := ⟨.hbm, 111, rfl⟩
abbrev main_call0_v56 : Ref sig .tc := ⟨.hbm, 112, rfl⟩
abbrev main_call0_v57 : Ref sig .tc := ⟨.hbm, 113, rfl⟩
abbrev main_call0_v58 : Ref sig .tc := ⟨.hbm, 114, rfl⟩
abbrev main_call0_v59 : Ref sig .tc := ⟨.hbm, 115, rfl⟩
abbrev main_call0_v60 : Ref sig .tc := ⟨.hbm, 116, rfl⟩
abbrev main_call0_v61 : Ref sig .tc := ⟨.hbm, 117, rfl⟩
abbrev main_call0_v62 : Ref sig .tc := ⟨.hbm, 118, rfl⟩
abbrev main_call0_v63 : Ref sig .tc := ⟨.hbm, 119, rfl⟩
abbrev main_call0_v64 : Ref sig .tc := ⟨.hbm, 120, rfl⟩
abbrev main_call0_v65 : Ref sig .tc := ⟨.hbm, 121, rfl⟩
abbrev main_call0_v66 : Ref sig .tc := ⟨.hbm, 122, rfl⟩
abbrev main_call0_v67 : Ref sig .tc := ⟨.hbm, 123, rfl⟩
abbrev main_call0_v68 : Ref sig .tc := ⟨.hbm, 124, rfl⟩
abbrev main_call0_v69 : Ref sig .tc := ⟨.hbm, 125, rfl⟩
abbrev main_call0_v70 : Ref sig .tc := ⟨.hbm, 126, rfl⟩
abbrev main_call0_v71 : Ref sig .tc := ⟨.hbm, 127, rfl⟩
abbrev main_call0_v72 : Ref sig .tc := ⟨.hbm, 128, rfl⟩
abbrev main_v0 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 6 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![v1.toNat, c0_i32.toNat, c0_i32_0.toNat, c0_i32_1.toNat, c0_i32_2.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x3x32x6x32x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S96x16x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x32x4x32x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "third" => some ((1 / 3 : ℝ) : EReal)
  | _ => none
-- ==== ReferenceIdeal.lean ====
abbrev S4x32x32x32x16 : Shape := ⟨5, ![4, 32, 32, 32, 16]⟩
abbrev S3x3x32x4x4 : Shape := ⟨5, ![3, 3, 32, 4, 4]⟩
abbrev S32x4x4 : Shape := ⟨3, ![32, 4, 4]⟩
abbrev S16 : Shape := ⟨1, ![16]⟩
abbrev S_ : Shape := ⟨0, ![]⟩
abbrev S4x32x34x34x16 : Shape := ⟨5, ![4, 32, 34, 34, 16]⟩
abbrev S4x32x1x32x32x16 : Shape := ⟨6, ![4, 32, 1, 32, 32, 16]⟩
abbrev S4x32x9x32x32x16 : Shape := ⟨6, ![4, 32, 9, 32, 32, 16]⟩
abbrev S4x32x32x32x9x16 : Shape := ⟨6, ![4, 32, 32, 32, 9, 16]⟩
abbrev S4x1024x288x4x4 : Shape := ⟨5, ![4, 1024, 288, 4, 4]⟩
abbrev S32x3x3x4x4 : Shape := ⟨5, ![32, 3, 3, 4, 4]⟩
abbrev S288x4x4 : Shape := ⟨3, ![288, 4, 4]⟩
abbrev S288x4x4x1024x4 : Shape := ⟨5, ![288, 4, 4, 1024, 4]⟩
abbrev S288 : Shape := ⟨1, ![288]⟩
abbrev S1 : Shape := ⟨1, ![1]⟩
abbrev S4x1024x4x4 : Shape := ⟨4, ![4, 1024, 4, 4]⟩
abbrev S32x4x4x1024x4 : Shape := ⟨5, ![32, 4, 4, 1024, 4]⟩
abbrev S4x1024x32x4x4 : Shape := ⟨5, ![4, 1024, 32, 4, 4]⟩
abbrev S4x1024x32x288 : Shape := ⟨4, ![4, 1024, 32, 288]⟩
abbrev S4x1024x32 : Shape := ⟨3, ![4, 1024, 32]⟩
abbrev S4x1024x32x1 : Shape := ⟨4, ![4, 1024, 32, 1]⟩
abbrev S4x1024x288 : Shape := ⟨3, ![4, 1024, 288]⟩
abbrev S4x1024x1x288 : Shape := ⟨4, ![4, 1024, 1, 288]⟩
abbrev S4x1024x4x4x32 : Shape := ⟨5, ![4, 1024, 4, 4, 32]⟩
abbrev S32x4x1024x4x4 : Shape := ⟨5, ![32, 4, 1024, 4, 4]⟩
abbrev S4x32x32x32 : Shape := ⟨4, ![4, 32, 32, 32]⟩
abbrev S4x32x32x32x1 : Shape := ⟨5, ![4, 32, 32, 32, 1]⟩
abbrev S1x1x1x1x16 : Shape := ⟨5, ![1, 1, 1, 1, 16]⟩

abbrev nBuf : Space → Nat
  | .hbm => 291
  | .vmem => 0
  | .smem => 0
  | _ => 0

abbrev hbmTy0_0 (i : Nat) : BufTy := match i % 128 with
  | 0 => ⟨S4x32x32x32x16, .f32⟩
  | 1 => ⟨S3x3x32x4x4, .f32⟩
  | 2 => ⟨S32x4x4, .f32⟩
  | 3 => ⟨S16, .f32⟩
  | 4 => ⟨S16, .f32⟩
  | 5 => ⟨S_, .i32⟩
  | 6 => ⟨S_, .f32⟩
  | 7 => ⟨S4x32x34x34x16, .f32⟩
  | 8 => ⟨S4x32x32x32x16, .f32⟩
  | 9 => ⟨S4x32x32x32x16, .f32⟩
  | 10 => ⟨S4x32x32x32x16, .f32⟩
  | 11 => ⟨S4x32x32x32x16, .f32⟩
  | 12 => ⟨S4x32x32x32x16, .f32⟩
  | 13 => ⟨S4x32x32x32x16, .f32⟩
  | 14 => ⟨S4x32x32x32x16, .f32⟩
  | 15 => ⟨S4x32x32x32x16, .f32⟩
  | 16 => ⟨S4x32x32x32x16, .f32⟩
  | 17 => ⟨S4x32x1x32x32x16, .f32⟩
  | 18 => ⟨S4x32x1x32x32x16, .f32⟩
  | 19 => ⟨S4x32x1x32x32x16, .f32⟩
  | 20 => ⟨S4x32x1x32x32x16, .f32⟩
  | 21 => ⟨S4x32x1x32x32x16, .f32⟩
  | 22 => ⟨S4x32x1x32x32x16, .f32⟩
  | 23 => ⟨S4x32x1x32x32x16, .f32⟩
  | 24 => ⟨S4x32x1x32x32x16, .f32⟩
  | 25 => ⟨S4x32x1x32x32x16, .f32⟩
  | 26 => ⟨S4x32x9x32x32x16, .f32⟩
  | 27 => ⟨S4x32x32x32x9x16, .f32⟩
  | 28 => ⟨S4x1024x288x4x4, .f32⟩
  | 29 => ⟨S32x3x3x4x4, .f32⟩
  | 30 => ⟨S288x4x4, .f32⟩
  | 31 => ⟨S288x4x4x1024x4, .f32⟩
  | 32 => ⟨S4x1024x288x4x4, .f32⟩
  | 33 => ⟨S_, .f32⟩
  | 34 => ⟨S288, .f32⟩
  | 35 => ⟨S_, .f32⟩
  | 36 => ⟨S_, .f32⟩
  | 37 => ⟨S_, .f32⟩
  | 38 => ⟨S_, .f32⟩
  | 39 => ⟨S1, .f32⟩
  | 40 => ⟨S288, .f32⟩
  | 41 => ⟨S288, .f32⟩
  | 42 => ⟨S288, .f32⟩
  | 43 => ⟨S_, .f32⟩
  | 44 => ⟨S_, .f32⟩
  | 45 => ⟨S1, .f32⟩
  | 46 => ⟨S288, .f32⟩
  | 47 => ⟨S288, .f32⟩
  | 48 => ⟨S4x1024x4x4, .f32⟩
  | 49 => ⟨S32x4x4x1024x4, .f32⟩
  | 50 => ⟨S4x1024x32x4x4, .f32⟩
  | 51 => ⟨S32x4x4x1024x4, .f32⟩
  | 52 => ⟨S4x1024x32x288, .f32⟩
  | 53 => ⟨S_, .f32⟩
  | 54 => ⟨S4x1024x32x288, .f32⟩
  | 55 => ⟨S4x1024x32x288, .f32⟩
  | 56 => ⟨S_, .f32⟩
  | 57 => ⟨S4x1024x32x288, .f32⟩
  | 58 => ⟨S4x1024x32x288, .f32⟩
  | 59 => ⟨S_, .f32⟩
  | 60 => ⟨S4x1024x32, .f32⟩
  | 61 => ⟨S4x1024x32x1, .f32⟩
  | 62 => ⟨S4x1024x32x288, .f32⟩
  | 63 => ⟨S4x1024x32x288, .f32⟩
  | 64 => ⟨S4x1024x32x288, .f32⟩
  | 65 => ⟨S_, .f32⟩
  | 66 => ⟨S4x1024x32, .f32⟩
  | 67 => ⟨S4x1024x32x1, .f32⟩
  | 68 => ⟨S4x1024x32x1, .f32⟩
  | 69 => ⟨S4x1024x32x1, .f32⟩
  | 70 => ⟨S4x1024x32x288, .f32⟩
  | 71 => ⟨S4x1024x32x288, .f32⟩
  | 72 => ⟨S_, .f32⟩
  | 73 => ⟨S4x1024x288, .f32⟩
  | 74 => ⟨S4x1024x1x288, .f32⟩
  | 75 => ⟨S4x1024x32x288, .f32⟩
  | 76 => ⟨S4x1024x32x288, .f32⟩
  | 77 => ⟨S4x1024x32x288, .f32⟩
  | 78 => ⟨S_, .f32⟩
  | 79 => ⟨S4x1024x288, .f32⟩
  | 80 => ⟨S4x1024x1x288, .f32⟩
  | 81 => ⟨S4x1024x1x288, .f32⟩
  | 82 => ⟨S4x1024x1x288, .f32⟩
  | 83 => ⟨S4x1024x32x288, .f32⟩
  | 84 => ⟨S4x1024x32x288, .f32⟩
  | 85 => ⟨S_, .f32⟩
  | 86 => ⟨S4x1024x32, .f32⟩
  | 87 => ⟨S4x1024x32x1, .f32⟩
  | 88 => ⟨S4x1024x32x288, .f32⟩
  | 89 => ⟨S4x1024x32x288, .f32⟩
  | 90 => ⟨S4x1024x32x288, .f32⟩
  | 91 => ⟨S_, .f32⟩
  | 92 => ⟨S4x1024x32, .f32⟩
  | 93 => ⟨S4x1024x32x1, .f32⟩
  | 94 => ⟨S4x1024x32x1, .f32⟩
  | 95 => ⟨S4x1024x32x1, .f32⟩
  | 96 => ⟨S4x1024x32x288, .f32⟩
  | 97 => ⟨S4x1024x32x288, .f32⟩
  | 98 => ⟨S_, .f32⟩
  | 99 => ⟨S4x1024x288, .f32⟩
  | 100 => ⟨S4x1024x1x288, .f32⟩
  | 101 => ⟨S4x1024x32x288, .f32⟩
  | 102 => ⟨S4x1024x32x288, .f32⟩
  | 103 => ⟨S4x1024x32x288, .f32⟩
  | 104 => ⟨S_, .f32⟩
  | 105 => ⟨S4x1024x288, .f32⟩
  | 106 => ⟨S4x1024x1x288, .f32⟩
  | 107 => ⟨S4x1024x1x288, .f32⟩
  | 108 => ⟨S4x1024x1x288, .f32⟩
  | 109 => ⟨S4x1024x32x288, .f32⟩
  | 110 => ⟨S4x1024x32x288, .f32⟩
  | 111 => ⟨S_, .f32⟩
  | 112 => ⟨S4x1024x32, .f32⟩
  | 113 => ⟨S4x1024x32x1, .f32⟩
  | 114 => ⟨S4x1024x32x288, .f32⟩
  | 115 => ⟨S4x1024x32x288, .f32⟩
  | 116 => ⟨S4x1024x32x288, .f32⟩
  | 117 => ⟨S_, .f32⟩
  | 118 => ⟨S4x1024x32, .f32⟩
  | 119 => ⟨S4x1024x32x1, .f32⟩
  | 120 => ⟨S4x1024x32x1, .f32⟩
  | 121 => ⟨S4x1024x32x1, .f32⟩
  | 122 => ⟨S4x1024x32x288, .f32⟩
  | 123 => ⟨S4x1024x32x288, .f32⟩
  | 124 => ⟨S_, .f32⟩
  | 125 => ⟨S4x1024x288, .f32⟩
  | 126 => ⟨S4x1024x1x288, .f32⟩
  | 127 => ⟨S4x1024x32x288, .f32⟩
  | _ => ⟨S4x32x32x32x16, .f32⟩

abbrev hbmTy0_1 (i : Nat) : BufTy := match i % 128 with
  | 0 => ⟨S4x1024x32x288, .f32⟩
  | 1 => ⟨S4x1024x32x288, .f32⟩
  | 2 => ⟨S_, .f32⟩
  | 3 => ⟨S4x1024x288, .f32⟩
  | 4 => ⟨S4x1024x1x288, .f32⟩
  | 5 => ⟨S4x1024x1x288, .f32⟩
  | 6 => ⟨S4x1024x1x288, .f32⟩
  | 7 => ⟨S4x1024x32x288, .f32⟩
  | 8 => ⟨S4x1024x32x288, .f32⟩
  | 9 => ⟨S_, .f32⟩
  | 10 => ⟨S4x1024x32, .f32⟩
  | 11 => ⟨S4x1024x32x1, .f32⟩
  | 12 => ⟨S4x1024x32x288, .f32⟩
  | 13 => ⟨S4x1024x32x288, .f32⟩
  | 14 => ⟨S4x1024x32x288, .f32⟩
  | 15 => ⟨S_, .f32⟩
  | 16 => ⟨S4x1024x32, .f32⟩
  | 17 => ⟨S4x1024x32x1, .f32⟩
  | 18 => ⟨S4x1024x32x1, .f32⟩
  | 19 => ⟨S4x1024x32x1, .f32⟩
  | 20 => ⟨S4x1024x32x288, .f32⟩
  | 21 => ⟨S4x1024x32x288, .f32⟩
  | 22 => ⟨S_, .f32⟩
  | 23 => ⟨S4x1024x288, .f32⟩
  | 24 => ⟨S4x1024x1x288, .f32⟩
  | 25 => ⟨S4x1024x32x288, .f32⟩
  | 26 => ⟨S4x1024x32x288, .f32⟩
  | 27 => ⟨S4x1024x32x288, .f32⟩
  | 28 => ⟨S_, .f32⟩
  | 29 => ⟨S4x1024x288, .f32⟩
  | 30 => ⟨S4x1024x1x288, .f32⟩
  | 31 => ⟨S4x1024x1x288, .f32⟩
  | 32 => ⟨S4x1024x1x288, .f32⟩
  | 33 => ⟨S4x1024x32x288, .f32⟩
  | 34 => ⟨S4x1024x32x288, .f32⟩
  | 35 => ⟨S_, .f32⟩
  | 36 => ⟨S4x1024x32, .f32⟩
  | 37 => ⟨S4x1024x32x1, .f32⟩
  | 38 => ⟨S4x1024x32x288, .f32⟩
  | 39 => ⟨S4x1024x32x288, .f32⟩
  | 40 => ⟨S4x1024x32x288, .f32⟩
  | 41 => ⟨S_, .f32⟩
  | 42 => ⟨S4x1024x32, .f32⟩
  | 43 => ⟨S4x1024x32x1, .f32⟩
  | 44 => ⟨S4x1024x32x1, .f32⟩
  | 45 => ⟨S4x1024x32x1, .f32⟩
  | 46 => ⟨S4x1024x32x288, .f32⟩
  | 47 => ⟨S4x1024x32x288, .f32⟩
  | 48 => ⟨S_, .f32⟩
  | 49 => ⟨S4x1024x288, .f32⟩
  | 50 => ⟨S4x1024x1x288, .f32⟩
  | 51 => ⟨S4x1024x32x288, .f32⟩
  | 52 => ⟨S4x1024x32x288, .f32⟩
  | 53 => ⟨S4x1024x32x288, .f32⟩
  | 54 => ⟨S_, .f32⟩
  | 55 => ⟨S4x1024x288, .f32⟩
  | 56 => ⟨S4x1024x1x288, .f32⟩
  | 57 => ⟨S4x1024x1x288, .f32⟩
  | 58 => ⟨S4x1024x1x288, .f32⟩
  | 59 => ⟨S4x1024x32x288, .f32⟩
  | 60 => ⟨S4x1024x32x288, .f32⟩
  | 61 => ⟨S_, .f32⟩
  | 62 => ⟨S4x1024x32, .f32⟩
  | 63 => ⟨S4x1024x32x1, .f32⟩
  | 64 => ⟨S4x1024x32x288, .f32⟩
  | 65 => ⟨S4x1024x32x288, .f32⟩
  | 66 => ⟨S4x1024x32x288, .f32⟩
  | 67 => ⟨S_, .f32⟩
  | 68 => ⟨S4x1024x32, .f32⟩
  | 69 => ⟨S4x1024x32x1, .f32⟩
  | 70 => ⟨S4x1024x32x1, .f32⟩
  | 71 => ⟨S4x1024x32x1, .f32⟩
  | 72 => ⟨S4x1024x32x288, .f32⟩
  | 73 => ⟨S4x1024x32x288, .f32⟩
  | 74 => ⟨S_, .f32⟩
  | 75 => ⟨S4x1024x288, .f32⟩
  | 76 => ⟨S4x1024x1x288, .f32⟩
  | 77 => ⟨S4x1024x32x288, .f32⟩
  | 78 => ⟨S4x1024x32x288, .f32⟩
  | 79 => ⟨S4x1024x32x288, .f32⟩
  | 80 => ⟨S_, .f32⟩
  | 81 => ⟨S4x1024x288, .f32⟩
  | 82 => ⟨S4x1024x1x288, .f32⟩
  | 83 => ⟨S4x1024x1x288, .f32⟩
  | 84 => ⟨S4x1024x1x288, .f32⟩
  | 85 => ⟨S4x1024x32x288, .f32⟩
  | 86 => ⟨S4x1024x32x288, .f32⟩
  | 87 => ⟨S_, .f32⟩
  | 88 => ⟨S4x1024x32, .f32⟩
  | 89 => ⟨S4x1024x32x1, .f32⟩
  | 90 => ⟨S4x1024x32x288, .f32⟩
  | 91 => ⟨S4x1024x32x288, .f32⟩
  | 92 => ⟨S4x1024x32x288, .f32⟩
  | 93 => ⟨S_, .f32⟩
  | 94 => ⟨S4x1024x32, .f32⟩
  | 95 => ⟨S4x1024x32x1, .f32⟩
  | 96 => ⟨S4x1024x32x1, .f32⟩
  | 97 => ⟨S4x1024x32x1, .f32⟩
  | 98 => ⟨S4x1024x32x288, .f32⟩
  | 99 => ⟨S4x1024x32x288, .f32⟩
  | 100 => ⟨S_, .f32⟩
  | 101 => ⟨S4x1024x288, .f32⟩
  | 102 => ⟨S4x1024x1x288, .f32⟩
  | 103 => ⟨S4x1024x32x288, .f32⟩
  | 104 => ⟨S4x1024x32x288, .f32⟩
  | 105 => ⟨S4x1024x32x288, .f32⟩
  | 106 => ⟨S_, .f32⟩
  | 107 => ⟨S4x1024x288, .f32⟩
  | 108 => ⟨S4x1024x1x288, .f32⟩
  | 109 => ⟨S4x1024x1x288, .f32⟩
  | 110 => ⟨S4x1024x1x288, .f32⟩
  | 111 => ⟨S4x1024x32x288, .f32⟩
  | 112 => ⟨S4x1024x32x288, .f32⟩
  | 113 => ⟨S4x1024x32x288, .f32⟩
  | 114 => ⟨S4x1024x4x4x32, .f32⟩
  | 115 => ⟨S32x4x1024x4x4, .f32⟩
  | 116 => ⟨S4x1024x32x4x4, .f32⟩
  | 117 => ⟨S4x32x32x32x16, .f32⟩
  | 118 => ⟨S4x32x32x32x16, .f32⟩
  | 119 => ⟨S_, .f32⟩
  | 120 => ⟨S4x32x32x32, .f32⟩
  | 121 => ⟨S4x32x32x32x1, .f32⟩
  | 122 => ⟨S_, .f32⟩
  | 123 => ⟨S4x32x32x32x1, .f32⟩
  | 124 => ⟨S4x32x32x32x1, .f32⟩
  | 125 => ⟨S_, .i32⟩
  | 126 => ⟨S_, .f32⟩
  | 127 => ⟨S4x32x32x32, .f32⟩
  | _ => ⟨S4x32x32x32x16, .f32⟩

abbrev hbmTy0_2 (i : Nat) : BufTy := match i % 128 with
  | 0 => ⟨S4x32x32x32x1, .f32⟩
  | 1 => ⟨S_, .f32⟩
  | 2 => ⟨S4x32x32x32x1, .f32⟩
  | 3 => ⟨S4x32x32x32x1, .f32⟩
  | 4 => ⟨S4x32x32x32x16, .f32⟩
  | 5 => ⟨S4x32x32x32x16, .f32⟩
  | 6 => ⟨S4x32x32x32x16, .f32⟩
  | 7 => ⟨S_, .f32⟩
  | 8 => ⟨S_, .f32⟩
  | 9 => ⟨S_, .f32⟩
  | 10 => ⟨S_, .f32⟩
  | 11 => ⟨S4x32x32x32, .f32⟩
  | 12 => ⟨S4x32x32x32x1, .f32⟩
  | 13 => ⟨S4x32x32x32x1, .f32⟩
  | 14 => ⟨S4x32x32x32x1, .f32⟩
  | 15 => ⟨S_, .f32⟩
  | 16 => ⟨S_, .i1⟩
  | 17 => ⟨S_, .f32⟩
  | 18 => ⟨S_, .f32⟩
  | 19 => ⟨S4x32x32x32x1, .f32⟩
  | 20 => ⟨S4x32x32x32x1, .f32⟩
  | 21 => ⟨S4x32x32x32x16, .f32⟩
  | 22 => ⟨S4x32x32x32x16, .f32⟩
  | 23 => ⟨S_, .f32⟩
  | 24 => ⟨S4x32x32x32x1, .f32⟩
  | 25 => ⟨S4x32x32x32x1, .f32⟩
  | 26 => ⟨S4x32x32x32x1, .f32⟩
  | 27 => ⟨S4x32x32x32x16, .f32⟩
  | 28 => ⟨S4x32x32x32x16, .f32⟩
  | 29 => ⟨S1x1x1x1x16, .f32⟩
  | 30 => ⟨S4x32x32x32x16, .f32⟩
  | 31 => ⟨S4x32x32x32x16, .f32⟩
  | 32 => ⟨S1x1x1x1x16, .f32⟩
  | 33 => ⟨S4x32x32x32x16, .f32⟩
  | 34 => ⟨S4x32x32x32x16, .f32⟩
  | _ => ⟨S4x32x32x32x16, .f32⟩

abbrev hbmTy (i : Nat) : BufTy := match i / 128 with
  | 0 => hbmTy0_0 i
  | 1 => hbmTy0_1 i
  | 2 => hbmTy0_2 i
  | _ => ⟨S4x32x32x32x16, .f32⟩

abbrev bufTy : (tb : Table) → Fin (tcTables nBuf tb) → BufTy
  | .hbm, ⟨i, _⟩ => hbmTy i
  | _, _ => ⟨S4x32x32x32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst : Ref sig .tc := ⟨.hbm, 33, rfl⟩
abbrev main_v26 : Ref sig .tc := ⟨.hbm, 34, rfl⟩
abbrev main_cst_0 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩
abbrev main_v43 : Ref sig .tc := ⟨.hbm, 55, rfl⟩
abbrev main_cst_4 : Ref sig .tc := ⟨.hbm, 56, rfl⟩
abbrev main_v44 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_8 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_9 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_10 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_11 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_12 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_cst_13 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_14 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_15 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_cst_16 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_cst_17 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_cst_18 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_cst_19 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_cst_20 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_cst_21 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_cst_22 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_cst_23 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_cst_24 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_cst_25 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_cst_26 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_cst_27 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_cst_28 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_cst_29 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_cst_30 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_cst_31 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_cst_32 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_cst_33 : Ref sig .tc := ⟨.hbm, 247, rfl⟩
abbrev main_v206 : Ref sig .tc := ⟨.hbm, 248, rfl⟩
abbrev main_v207 : Ref sig .tc := ⟨.hbm, 249, rfl⟩
abbrev main_cst_34 : Ref sig .tc := ⟨.hbm, 250, rfl⟩
abbrev main_v208 : Ref sig .tc := ⟨.hbm, 251, rfl⟩
abbrev main_v209 : Ref sig .tc := ⟨.hbm, 252, rfl⟩
abbrev main_c_35 : Ref sig .tc := ⟨.hbm, 253, rfl⟩
abbrev main_call1_cst : Ref sig .tc := ⟨.hbm, 254, rfl⟩
abbrev main_call1_v0 : Ref sig .tc := ⟨.hbm, 255, rfl⟩
abbrev main_call1_v1 : Ref sig .tc := ⟨.hbm, 256, rfl⟩
abbrev main_call1_cst_0 : Ref sig .tc := ⟨.hbm, 257, rfl⟩
abbrev main_call1_v2 : Ref sig .tc := ⟨.hbm, 258, rfl⟩
abbrev main_call1_v3 : Ref sig .tc := ⟨.hbm, 259, rfl⟩
abbrev main_call1_v4 : Ref sig .tc := ⟨.hbm, 260, rfl⟩
abbrev main_call1_v5 : Ref sig .tc := ⟨.hbm, 261, rfl⟩
abbrev main_call1_v6 : Ref sig .tc := ⟨.hbm, 262, rfl⟩
abbrev main_call1_v7 : Ref sig .tc := ⟨.hbm, 263, rfl⟩
abbrev main_call1_cst_1 : Ref sig .tc := ⟨.hbm, 264, rfl⟩
abbrev main_call1_v8 : Ref sig .tc := ⟨.hbm, 265, rfl⟩
abbrev main_call1_cst_2 : Ref sig .tc := ⟨.hbm, 266, rfl⟩
abbrev main_call1_v9 : Ref sig .tc := ⟨.hbm, 267, rfl⟩
abbrev main_call1_v10 : Ref sig .tc := ⟨.hbm, 268, rfl⟩
abbrev main_call1_v11 : Ref sig .tc := ⟨.hbm, 269, rfl⟩
abbrev main_call1_v12 : Ref sig .tc := ⟨.hbm, 270, rfl⟩
abbrev main_call1_cst_3 : Ref sig .tc := ⟨.hbm, 271, rfl⟩
abbrev main_call1_v13 : Ref sig .tc := ⟨.hbm, 272, rfl⟩
abbrev main_call1_cst_4 : Ref sig .tc := ⟨.hbm, 273, rfl⟩
abbrev main_call1_call0_v0 : Ref sig .tc := ⟨.hbm, 274, rfl⟩
abbrev main_call1_call0_v1 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_cst_36 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩

abbrev nD : Nat := 1
abbrev τ : Topo := Topo.v7x

variable {F : FTy → Type} [FloatOps F]
-- ==== Proof.Spec.lean ====
/- The capsule routing layer at one output position, over the real numbers: what both programs are shown to compute.
   `X` holds the 288 input poses of the 3 × 3 window (position `9 * channel + 3 * row + column`), `Wc` the 4 × 4 matrix of
   each, `Wn` the 4 × 4 matrix of each of the 32 output capsules. A pose is a vector of 16, entry `4 * row + column`. -/
module

public import Idealize.ShloMosaic.PureOps.Ideal

@[expose] public section

set_option backward.proofsInPublic true

noncomputable section

namespace Cert.Spec

/-- The entry of a pose vector at a row and a column. -/
def at4 (i j : Fin 4) : Fin 16 := ⟨4 * i.val + j.val, by omega⟩
/-- The row of an entry of a pose vector. -/
def hi (e : Fin 16) : Fin 4 := ⟨e.val / 4, by omega⟩
/-- The column of an entry of a pose vector. -/
def lo (e : Fin 16) : Fin 4 := ⟨e.val % 4, by omega⟩

@[simp] theorem hi_at4 (i j : Fin 4) : hi (at4 i j) = i := Fin.ext (by simp only [hi, at4]; omega)
@[simp] theorem lo_at4 (i j : Fin 4) : lo (at4 i j) = j := Fin.ext (by simp only [lo, at4]; omega)
@[simp] theorem at4_hi_lo (e : Fin 16) : at4 (hi e) (lo e) = e := Fin.ext (by simp only [hi, lo, at4]; omega)

/-- A sum over the entries of a pose is the sum over its rows and columns. -/
theorem sum_pose {M : Type*} [AddCommMonoid M] (f : Fin 16 → M) : ∑ e, f e = ∑ i : Fin 4, ∑ j : Fin 4, f (at4 i j) := by
  rw [← Fintype.sum_prod_type']
  exact (Equiv.sum_comp (⟨fun p : Fin 4 × Fin 4 => at4 p.1 p.2, fun e => (hi e, lo e), fun p => by simp, fun e => by simp⟩ : Fin 4 × Fin 4 ≃ Fin 16) f).symm

/-- A sum over the entries of a pose that keeps only one row is the sum over that row. -/
theorem sum_row (k : Fin 4) (f : Fin 16 → ℝ) :
    ∑ e, (if hi e = k then 1 else 0) * f e = ∑ j, f (at4 k j) := by
  rw [sum_pose, Finset.sum_eq_single k (fun i _ h => by simp [h]) (by simp)]
  simp

variable {κ μ : Type} [Fintype κ] [Fintype μ]

/-! ## The normalisation of the attention -/

/-- Each row divided by its sum. -/
def rowNorm (E : μ → κ → ℝ) (m : μ) (n : κ) : ℝ := E m n / ∑ n', E m n'
/-- Each column divided by its sum. -/
def colNorm (E : μ → κ → ℝ) (m : μ) (n : κ) : ℝ := E m n / ∑ m', E m' n
/-- `k` rounds of dividing the rows, then the columns, by their sums. -/
def rounds (E : μ → κ → ℝ) : ℕ → μ → κ → ℝ
  | 0 => E
  | k + 1 => colNorm (rowNorm (rounds E k))

/-- The factors of the rows, from those of the columns. -/
def rowInv (P : μ → κ → ℝ) (c : κ → ℝ) (m : μ) : ℝ := 1 / ∑ n, P m n * c n
/-- The factors of the columns, from those of the rows. -/
def colInv (P : μ → κ → ℝ) (r : μ → ℝ) (n : κ) : ℝ := 1 / ∑ m, r m * P m n
/-- The factors of the columns after `k` rounds. -/
def colSeq (P : μ → κ → ℝ) : ℕ → κ → ℝ
  | 0 => fun _ => 1
  | k + 1 => colInv P (rowInv P (colSeq P k))

section Positive
variable [Nonempty κ] [Nonempty μ]

theorem rowSum_pos {P : μ → κ → ℝ} (hP : ∀ m n, 0 < P m n) {c : κ → ℝ} (hc : ∀ n, 0 < c n) (m : μ) : 0 < ∑ n, P m n * c n :=
  Finset.sum_pos (fun n _ => mul_pos (hP m n) (hc n)) Finset.univ_nonempty

/-- Weighted column sums of a positive matrix are positive. -/
theorem colSum_pos {P : μ → κ → ℝ} (hP : ∀ m n, 0 < P m n) {r : μ → ℝ} (hr : ∀ m, 0 < r m) (n : κ) : 0 < ∑ m, r m * P m n :=
  Finset.sum_pos (fun m _ => mul_pos (hr m) (hP m n)) Finset.univ_nonempty

/-- Row factors are positive. -/
theorem rowInv_pos {P : μ → κ → ℝ} (hP : ∀ m n, 0 < P m n) {c : κ → ℝ} (hc : ∀ n, 0 < c n) (m : μ) : 0 < rowInv P c m :=
  one_div_pos.2 (rowSum_pos hP hc m)

/-- Column factors are positive. -/
theorem colInv_pos {P : μ → κ → ℝ} (hP : ∀ m n, 0 < P m n) {r : μ → ℝ} (hr : ∀ m, 0 < r m) (n : κ) : 0 < colInv P r n :=
  one_div_pos.2 (colSum_pos hP hr n)

/-- The column factors of every round are positive. -/
theorem colSeq_pos {P : μ → κ → ℝ} (hP : ∀ m n, 0 < P m n) : ∀ k n, 0 < colSeq P k n
  | 0, _ => one_pos
  | k + 1, n => colInv_pos hP (rowInv_pos hP (colSeq_pos hP k)) n

/-- Normalising the rows keeps a matrix positive. -/
theorem rowNorm_pos {E : μ → κ → ℝ} (hE : ∀ m n, 0 < E m n) (m : μ) (n : κ) : 0 < rowNorm E m n :=
  div_pos (hE m n) (Finset.sum_pos (fun n _ => hE m n) Finset.univ_nonempty)

/-- Normalising the columns keeps a matrix positive. -/
theorem colNorm_pos {E : μ → κ → ℝ} (hE : ∀ m n, 0 < E m n) (m : μ) (n : κ) : 0 < colNorm E m n :=
  div_pos (hE m n) (Finset.sum_pos (fun m _ => hE m n) Finset.univ_nonempty)

/-- Every round keeps a matrix positive. -/
theorem rounds_pos {E : μ → κ → ℝ} (hE : ∀ m n, 0 < E m n) : ∀ k m n, 0 < rounds E k m n
  | 0, m, n => hE m n
  | k + 1, m, n => colNorm_pos (rowNorm_pos (rounds_pos hE k)) m n

/-- Dividing the rows of a matrix given by row and column factors replaces the row factors. -/
theorem rowNorm_scaled (a : μ → ℝ) (ha : ∀ m, 0 < a m) (P : μ → κ → ℝ) (hP : ∀ m n, 0 < P m n) (c : κ → ℝ) (hc : ∀ n, 0 < c n) :
    rowNorm (fun m n => a m * P m n * c n) = fun m n => rowInv P c m * P m n * c n := by
  funext m n
  have h : ∑ n', a m * P m n' * c n' = a m * ∑ n', P m n' * c n' := by
    rw [Finset.mul_sum]; exact Finset.sum_congr rfl fun n' _ => by ring
  have hs := (rowSum_pos hP hc m).ne'
  have := (ha m).ne'
  simp only [rowNorm, rowInv, h]
  field_simp

/-- Dividing the columns of a matrix given by row and column factors replaces the column factors. -/
theorem colNorm_scaled (r : μ → ℝ) (hr : ∀ m, 0 < r m) (P : μ → κ → ℝ) (hP : ∀ m n, 0 < P m n) (c : κ → ℝ) (hc : ∀ n, 0 < c n) :
    colNorm (fun m n => r m * P m n * c n) = fun m n => r m * P m n * colInv P r n := by
  funext m n
  have h : ∑ m', r m' * P m' n * c n = (∑ m', r m' * P m' n) * c n := (Finset.sum_mul ..).symm
  have hs := (colSum_pos hP hr n).ne'
  have := (hc n).ne'
  simp only [colNorm, colInv, h]
  field_simp

/-- Normalising a matrix and keeping row and column factors of it give the same result, whatever positive factors its rows
    were scaled by beforehand. -/
theorem rounds_scaled (a : μ → ℝ) (ha : ∀ m, 0 < a m) (P : μ → κ → ℝ) (hP : ∀ m n, 0 < P m n) :
    ∀ k, rounds (fun m n => a m * P m n) (k + 1) = fun m n => rowInv P (colSeq P k) m * P m n * colSeq P (k + 1) n := by
  have key : ∀ (b : μ → ℝ) (_ : ∀ m, 0 < b m) (k : ℕ), colNorm (rowNorm fun m n => b m * P m n * colSeq P k n)
      = fun m n => rowInv P (colSeq P k) m * P m n * colSeq P (k + 1) n := fun b hb k => by
    rw [rowNorm_scaled b hb P hP _ (colSeq_pos hP k),
      colNorm_scaled _ (rowInv_pos hP (colSeq_pos hP k)) P hP _ (colSeq_pos hP k)]
    rfl
  intro k
  induction k with
  | zero => rw [← key a ha 0]; simp [rounds, colSeq]
  | succ k ih => rw [rounds, ih, ← key _ (rowInv_pos hP (colSeq_pos hP k)) (k + 1)]

end Positive

/-! ## The layer at one output position -/

variable (X : Fin 288 → Fin 16 → ℝ) (Wc : Fin 288 → Fin 4 → Fin 4 → ℝ) (Wn : Fin 32 → Fin 4 → Fin 4 → ℝ)

/-- The vote of an input pose: its matrix times the pose. -/
def vote (n : Fin 288) (e : Fin 16) : ℝ := ∑ j, X n (at4 (hi e) j) * Wc n j (lo e)
/-- The mean vote. -/
def query (e : Fin 16) : ℝ := (∑ n, vote X Wc n e) / 288
/-- The mean vote sent through an output capsule's matrix and back through its transpose. -/
def lifted (m : Fin 32) (e : Fin 16) : ℝ := ∑ j, query X Wc (at4 (hi e) j) * ∑ k, Wn m j k * Wn m (lo e) k
/-- How well a vote agrees with an output capsule. -/
def logit (m : Fin 32) (n : Fin 288) : ℝ := (∑ e, lifted X Wc Wn m e * vote X Wc n e) * (1 / 3)
/-- The attention: the exponentials of the logits after seven rounds of normalisation. -/
def attn : Fin 32 → Fin 288 → ℝ := rounds (fun m n => Real.exp (logit X Wc Wn m n)) 7
/-- The votes weighted by an output capsule's attention. -/
def gathered (m : Fin 32) (e : Fin 16) : ℝ := ∑ n, attn X Wc Wn m n * vote X Wc n e
/-- An output capsule's pose. -/
def pose (m : Fin 32) (e : Fin 16) : ℝ := ∑ j, gathered X Wc Wn m (at4 (hi e) j) * Wn m j (lo e)
/-- The mean of an output capsule's pose. -/
def mean (m : Fin 32) : ℝ := (∑ e, pose X Wc Wn m e) / 16
/-- The variance of an output capsule's pose. -/
def var (m : Fin 32) : ℝ := (∑ e, (pose X Wc Wn m e - mean X Wc Wn m) * (pose X Wc Wn m e - mean X Wc Wn m)) / 16
/-- An output capsule's pose, centred and divided by its standard deviation (`ε` added to the variance). -/
def normed (ε : ℝ) (m : Fin 32) (e : Fin 16) : ℝ := (pose X Wc Wn m e - mean X Wc Wn m) * (Real.sqrt (var X Wc Wn m + ε))⁻¹

/-- The variance of a pose is at least 0. -/
theorem var_nonneg (m : Fin 32) : 0 ≤ var X Wc Wn m :=
  div_nonneg (Finset.sum_nonneg fun e _ => mul_self_nonneg _) (by norm_num)

/-- The attention by row and column factors of the exponentials shifted by any amount per row. -/
theorem attn_eq (M : Fin 32 → ℝ) (P : Fin 32 → Fin 288 → ℝ) (hP : ∀ m n, P m n = Real.exp (logit X Wc Wn m n - M m))
    (m : Fin 32) (n : Fin 288) : attn X Wc Wn m n = rowInv P (colSeq P 6) m * P m n * colSeq P 7 n := by
  have h := rounds_scaled (fun m => Real.exp (M m)) (fun m => Real.exp_pos _) P (fun m n => by rw [hP]; exact Real.exp_pos _) 6
  have e : (fun m n => Real.exp (logit X Wc Wn m n)) = fun m n => Real.exp (M m) * P m n := by
    funext m n; rw [hP, ← Real.exp_add]; congr 1; ring
  rw [attn, e]
  exact congrFun (congrFun h m) n

end Cert.Spec

end
-- ==== Proof.Patch.lean ====
/- The arguments as functions of their coordinates, and the window of the image an output position sees. -/
module

public import proofs.«01_k».proof.Proof.Spec

@[expose] public section

set_option backward.proofsInPublic true

noncomputable section

namespace Cert.Spec

/-- The channel of a window position. -/
def ch (n : Fin 288) : Fin 32 := ⟨n.val / 9, by omega⟩
/-- The row of a window position. -/
def row (n : Fin 288) : Fin 3 := ⟨n.val % 9 / 3, by omega⟩
/-- The column of a window position. -/
def col (n : Fin 288) : Fin 3 := ⟨n.val % 9 % 3, by omega⟩

/-- The image at the coordinates of a border one pixel wide: zero on the border. -/
def padR (xr : Fin 4 → Fin 32 → Fin 32 → Fin 32 → Fin 16 → ℝ) (b : Fin 4) (c : Fin 32) (h w : ℕ) (e : Fin 16) : ℝ :=
  if hh : (1 ≤ h ∧ h - 1 < 32) ∧ 1 ≤ w ∧ w - 1 < 32 then xr b c ⟨h - 1, hh.1.2⟩ ⟨w - 1, hh.2.2⟩ e else 0

/-- The poses of the window around an output position. -/
def patch (xr : Fin 4 → Fin 32 → Fin 32 → Fin 32 → Fin 16 → ℝ) (b : Fin 4) (h w : Fin 32) (n : Fin 288) (d : Fin 16) : ℝ :=
  padR xr b (ch n) (h.val + (row n).val) (w.val + (col n).val) d

/-- The matrix of each window position. -/
def kern (wr : Fin 3 → Fin 3 → Fin 32 → Fin 4 → Fin 4 → ℝ) (n : Fin 288) (j k : Fin 4) : ℝ := wr (row n) (col n) (ch n) j k

end Cert.Spec

end
-- ==== Proof.Consts.lean ====
/- The constants the two programs spell, as the reals their bits stand for, and the arithmetic of extended reals on reals:
   a finite sum, a product, a quotient of reals is the real one. -/
module

public import Idealize.ShloMosaic.PureOps.Ideal

@[expose] public section

set_option backward.proofsInPublic true

noncomputable section

namespace Cert.Consts

open Idealize.ShloMosaic

/-- The word of 0. -/
theorem ofBits_0 : Ideal.ofBits .f32 0x00000000#32 = ((0 : ℝ) : EReal) := by
  simp [Ideal.ofBits, Ideal.ieee, -EReal.coe_mul]

/-- The word of 1. -/
theorem ofBits_1 : Ideal.ofBits .f32 0x3F800000#32 = ((1 : ℝ) : EReal) := by
  simp [Ideal.ofBits, Ideal.ieee, -EReal.coe_mul]; norm_num

/-- The word of 4. -/
theorem ofBits_4 : Ideal.ofBits .f32 0x40800000#32 = ((4 : ℝ) : EReal) := by
  simp [Ideal.ofBits, Ideal.ieee, -EReal.coe_mul]; norm_num

/-- The word of 3/4. -/
theorem ofBits_threeQuarters : Ideal.ofBits .f32 0x3F400000#32 = ((3 / 4 : ℝ) : EReal) := by
  simp [Ideal.ofBits, Ideal.ieee, -EReal.coe_mul]; norm_num

/-- The word of 16. -/
theorem ofBits_16 : Ideal.ofBits .f32 0x41800000#32 = ((16 : ℝ) : EReal) := by
  simp [Ideal.ofBits, Ideal.ieee, -EReal.coe_mul]; norm_num

/-- The word of 288. -/
theorem ofBits_288 : Ideal.ofBits .f32 0x43900000#32 = ((288 : ℝ) : EReal) := by
  simp [Ideal.ofBits, Ideal.ieee, -EReal.coe_mul]; norm_num
/-- Minus infinity, from which the maxima start. -/
theorem ofBits_bot : Ideal.ofBits .f32 0xFF800000#32 = (⊥ : EReal) := by
  simp [Ideal.ofBits, Ideal.ieee]
/-- Plus infinity, below which the precondition holds the inputs. -/
theorem ofBits_top : Ideal.ofBits .f32 0x7F800000#32 = (⊤ : EReal) := by
  simp [Ideal.ofBits, Ideal.ieee]

/-- What is added to the variance before the root is taken. -/
def eps : ℝ := 10995116 / 2 ^ 40

/-- The variance's offset is positive. -/
theorem eps_pos : 0 < eps := by unfold eps; norm_num

/-- The word of the variance's offset. -/
theorem ofBits_eps : Ideal.ofBits .f32 0x3727C5AC#32 = ((eps : ℝ) : EReal) := by
  unfold eps
  simp [Ideal.ofBits, Ideal.ieee, -EReal.coe_mul]; norm_num

/-- A finite sum of reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- A quotient of reals. -/
theorem div_coe' {x y : ℝ} (h : y ≠ 0) : Ideal.div (x : EReal) (y : EReal) = ((x / y : ℝ) : EReal) := by
  rw [Ideal.div_coe h, ← EReal.coe_mul, mul_one_div]

/-- A difference of reals. -/
theorem sub_coe (x y : ℝ) : (x : EReal) - (y : EReal) = ((x - y : ℝ) : EReal) := (EReal.coe_sub x y).symm

/-- A maximum of reals. -/
theorem max_coe (x y : ℝ) : max (x : EReal) (y : EReal) = ((max x y : ℝ) : EReal) := (EReal.coe_strictMono.monotone.map_max).symm

/-- The largest of finitely many reals, searched from minus infinity, is a real. -/
theorem fold_max {ι : Type*} [Fintype ι] [Nonempty ι] (f : ι → ℝ) :
    ∃ M : ℝ, Finset.fold max (⊥ : EReal) (fun i => ((f i : ℝ) : EReal)) Finset.univ = (M : EReal) := by
  classical
  have key : ∀ s : Finset ι, s.Nonempty → ∃ M : ℝ, Finset.fold max (⊥ : EReal) (fun i => ((f i : ℝ) : EReal)) s = (M : EReal) := by
    intro s hs
    induction hs using Finset.Nonempty.cons_induction with
    | singleton a => exact ⟨f a, by simp⟩
    | cons a s h hs ih =>
      obtain ⟨M, hM⟩ := ih
      exact ⟨max (f a) M, by rw [Finset.fold_cons, hM, max_coe]⟩
  exact key _ Finset.univ_nonempty

end Cert.Consts

end
-- ==== Proof.Body.lean ====
/- What the kernel's body computes for one block of four image rows, at an index, when its input blocks are those the host
   prepares from a real image and real weights: the votes, the logits, the row and column factors of the attention, and the
   output poses, as the layer over the real numbers gives them. -/
module

public import proofs.«01_k».proof.Proof.Gen.KernelIdeal.Skeleton
public import proofs.«01_k».proof.Proof.Patch
public import proofs.«01_k».proof.Proof.Consts
public import Idealize.ShloMosaic.Lib.Pointwise
public import Idealize.ShloMosaic.Lib.Claim

@[expose] public section

set_option backward.proofsInPublic true
set_option maxRecDepth 16384
set_option maxHeartbeats 1600000

noncomputable section

namespace Cert.KernelIdeal.Body

open Idealize.ShloMosaic Idealize.ShloMosaic.TcCoe
open Cert.KernelIdeal Cert.KernelIdeal.Gen Cert.Spec

/-- The named third. -/
theorem third : Named.named (F := Ideal) Cert.KernelIdeal.κ "third" (φ := .f32) 0x3EAAAAAB#32 = ((1 / 3 : ℝ) : EReal) :=
  IdealRules.named_const.ideal_named_scalar _ _ _ _ rfl

/-- The window around position `p` of block `hb`. -/
def at128 (xr : Fin 4 → Fin 32 → Fin 32 → Fin 32 → Fin 16 → ℝ) (b : Fin 4) (hb : Fin 8) (p : Fin 128) : Fin 288 → Fin 16 → ℝ :=
  patch xr b ⟨4 * hb.val + p.val / 32, by omega⟩ ⟨p.val % 32, by omega⟩

section Votes

variable (x : FVec Ideal S1x3x32x6x32x16 .f32) (kc : FVec Ideal S96x16x48 .f32)
  (xr : Fin 4 → Fin 32 → Fin 32 → Fin 32 → Fin 16 → ℝ) (b : Fin 4) (hb : Fin 8)
  (hx : ∀ j c r w d, x (ix6 0 j c r w d) = ((padR xr b c (4 * hb.val + r.val) (j.val + w.val) d : ℝ) : EReal))
  (wr : Fin 3 → Fin 3 → Fin 32 → Fin 4 → Fin 4 → ℝ)
  (hk : ∀ (c : Fin 96) (a : Fin 16) (e : Fin 48), kc (ix3 c a e) = (((if hi a = hi ⟨e.val % 16, by omega⟩ then 1 else 0)
      * wr ⟨e.val / 16, by omega⟩ ⟨c.val / 32, by omega⟩ ⟨c.val % 32, by omega⟩ (lo a) (lo ⟨e.val % 16, by omega⟩) : ℝ) : EReal))

include hx hk

/-- A product of a pose with a spread matrix is a vote. -/
theorem tap (p : Fin 128) (e : Fin 16) (n : Fin 288) (j : Fin 3) (c : Fin 32) (r : Fin 6) (w : Fin 32) (a : Fin 96) (f : Fin 48)
    (hj : j.val = (col n).val) (hc : c.val = (ch n).val) (hr : r.val = (row n).val + p.val / 32) (hw : w.val = p.val % 32)
    (ha : a.val = 32 * (col n).val + (ch n).val) (hf : f.val = 16 * (row n).val + e.val) :
    ∑ d : Fin 16, x (ix6 0 j c r w d) * kc (ix3 a d f) = ((vote (at128 xr b hb p) (kern wr) n e : ℝ) : EReal) := by
  have e1 : (⟨f.val % 16, by omega⟩ : Fin 16) = e := Fin.ext (by simp only []; omega)
  have e2 : (⟨f.val / 16, by omega⟩ : Fin 3) = row n := Fin.ext (by simp only []; omega)
  have e3 : (⟨a.val / 32, by omega⟩ : Fin 3) = col n := Fin.ext (by simp only []; omega)
  have e4 : (⟨a.val % 32, by omega⟩ : Fin 32) = ch n := Fin.ext (by simp only []; omega)
  have e5 : c = ch n := Fin.ext hc
  have e6 : ∀ d, padR xr b c (4 * hb.val + r.val) (j.val + w.val) d = at128 xr b hb p n d := fun d => by
    rw [e5, hj, hr, hw]
    unfold at128 patch
    congr 1 <;> simp only [] <;> omega
  simp only [hx, hk, e1, e2, e3, e4, e6, ← EReal.coe_mul, Consts.coe_sum]
  congr 1
  rw [vote]
  refine Eq.trans ?_ ((sum_row (hi e) fun d => at128 xr b hb p n d * kern wr n (lo d) (lo e)).trans ?_)
  · exact Finset.sum_congr rfl fun d _ => by rw [kern]; ring
  · simp

/-- The votes. -/
theorem pay2_at (p : Fin 128) (e : Fin 16) (n : Fin 288) :
    k0_pay2 (F := Ideal) x kc (ix3 p e n) = ((vote (at128 xr b hb p) (kern wr) n e : ℝ) : EReal) := by
  have T := tap x kc xr b hb hx wr hk p e n
  pointwise [k0_pay2]
  have h9 : n.val % 9 = 0 ∨ n.val % 9 = 1 ∨ n.val % 9 = 2 ∨ n.val % 9 = 3 ∨ n.val % 9 = 4 ∨ n.val % 9 = 5 ∨ n.val % 9 = 6 ∨ n.val % 9 = 7 ∨ n.val % 9 = 8 := by omega
  rcases h9 with h | h | h | h | h | h | h | h | h <;> simp only [h, Nat.reduceSub, Nat.reduceLT, ↓reduceDIte] <;>
    exact T _ _ _ _ _ _ (by simp only [row, col, ch]; omega) (by simp only [row, col, ch]; omega) (by simp only [row, col, ch]; omega)
      rfl (by simp only [row, col, ch]; omega) (by simp only [row, col, ch]; omega)

end Votes

section Logits

variable (x : FVec Ideal S1x3x32x6x32x16 .f32) (kc : FVec Ideal S96x16x48 .f32) (g : FVec Ideal S16x512 .f32)
  (X : Fin 128 → Fin 288 → Fin 16 → ℝ) (Wc : Fin 288 → Fin 4 → Fin 4 → ℝ) (wn : Fin 32 → Fin 4 → Fin 4 → ℝ)
  (hv : ∀ p e n, k0_pay2 (F := Ideal) x kc (ix3 p e n) = ((vote (X p) Wc n e : ℝ) : EReal))
  (hg : ∀ (a : Fin 16) (m : Fin 32) (e : Fin 16), g (ix2 a ⟨m.val * 16 + e.val, by omega⟩)
      = (((if hi a = hi e then 1 else 0) * ∑ k, wn m (lo a) k * wn m (lo e) k : ℝ) : EReal))

include hv hg

/-- The logits. -/
theorem pay3_at (p : Fin 128) (m : Fin 32) (n : Fin 288) :
    k0_pay3 (F := Ideal) x kc g (ix3 p m n) = ((logit (X p) Wc wn m n : ℝ) : EReal) := by
  have hl : ∀ e : Fin 16, ∑ a, query (X p) Wc a * ((if hi a = hi e then 1 else 0) * ∑ k, wn m (lo a) k * wn m (lo e) k) = lifted (X p) Wc wn m e := fun e => by
    rw [lifted]
    refine Eq.trans ?_ ((sum_row (hi e) fun a => query (X p) Wc a * ∑ k, wn m (lo a) k * wn m (lo e) k).trans ?_)
    · exact Finset.sum_congr rfl fun d _ => by ring
    · simp
  pointwise [k0_pay3]
  simp only [hv, hg, Consts.coe_sum, Consts.ofBits_288, Consts.div_coe' (show (288 : ℝ) ≠ 0 by norm_num), ← EReal.coe_mul]
  rw [third]
  simp only [← EReal.coe_mul]
  rw [logit]
  simp only [← hl, query]

/-- The largest logit is a real. -/
theorem pay4_at (p : Fin 128) : ∃ M : ℝ, ∀ (m : Fin 32) (n : Fin 288), k0_pay4 (F := Ideal) x kc g (ix3 p m n) = ((M : ℝ) : EReal) := by
  have h3 := pay3_at x kc g X Wc wn hv hg
  obtain ⟨M, hM⟩ := Consts.fold_max fun q : Fin 32 × Fin 288 => logit (X p) Wc wn q.1 q.2
  refine ⟨M, fun m n => ?_⟩
  pointwise [k0_pay4]
  simp only [h3, Consts.ofBits_bot]
  exact hM

end Logits

section Factors

variable (P : Fin 32 → Fin 288 → ℝ) (hP : ∀ m n, 0 < P m n)
include hP

/-- A row factor. -/
theorem row_factor (c : Fin 288 → ℝ) (hc : ∀ n, 0 < c n) (m : Fin 32) :
    Ideal.div 1 (∑ n, ((P m n : ℝ) : EReal) * ((c n : ℝ) : EReal)) = ((rowInv P c m : ℝ) : EReal) := by
  simp only [← EReal.coe_mul, Consts.coe_sum]
  exact Consts.div_coe' (rowSum_pos hP hc m).ne'

/-- The first row factor. -/
theorem row_factor_one (m : Fin 32) : Ideal.div 1 (∑ n, ((P m n : ℝ) : EReal)) = ((rowInv P (colSeq P 0) m : ℝ) : EReal) := by
  rw [← row_factor P hP (colSeq P 0) (colSeq_pos hP 0)]
  simp [colSeq]

/-- A column factor. -/
theorem col_factor (r : Fin 32 → ℝ) (hr : ∀ m, 0 < r m) (n : Fin 288) :
    Ideal.div 1 (∑ m, ((r m : ℝ) : EReal) * ((P m n : ℝ) : EReal)) = ((colInv P r n : ℝ) : EReal) := by
  simp only [← EReal.coe_mul, Consts.coe_sum]
  exact Consts.div_coe' (colSum_pos hP hr n).ne'

/-- The next column factor. -/
theorem col_next (k : ℕ) (n : Fin 288) :
    Ideal.div 1 (∑ m, ((rowInv P (colSeq P k) m : ℝ) : EReal) * ((P m n : ℝ) : EReal)) = ((colSeq P (k + 1) n : ℝ) : EReal) :=
  col_factor P hP _ (rowInv_pos hP (colSeq_pos hP k)) n

/-- The next row factor. -/
theorem row_next (k : ℕ) (m : Fin 32) :
    Ideal.div 1 (∑ n, ((P m n : ℝ) : EReal) * ((colSeq P k n : ℝ) : EReal)) = ((rowInv P (colSeq P k) m : ℝ) : EReal) :=
  row_factor P hP _ (colSeq_pos hP k) m

/-- The sixth column sums. -/
theorem pay6_at (a b : FVec Ideal S128x32x288 .f32) (p : Fin 128) (h5 : ∀ m n, k0_pay5 (F := Ideal) a b (ix3 p m n) = ((P m n : ℝ) : EReal)) (n : Fin 288) :
    k0_pay6 (F := Ideal) a b (ix2 p n) = ((∑ m, rowInv P (colSeq P 5) m * P m n : ℝ) : EReal) := by
  pointwise [k0_pay6, h5]
  simp only [row_factor_one P hP, row_next P hP, col_next P hP, Nat.reduceAdd]
  simp only [← EReal.coe_mul, Consts.coe_sum]

end Factors

section Pose

variable (X : Fin 288 → Fin 16 → ℝ) (Wc : Fin 288 → Fin 4 → Fin 4 → ℝ) (wn : Fin 32 → Fin 4 → Fin 4 → ℝ)
  (P : Fin 32 → Fin 288 → ℝ) (M : Fin 32 → ℝ) (hPM : ∀ m n, P m n = Real.exp (logit X Wc wn m n - M m))
include hPM

/-- The output poses, centred and scaled. -/
theorem pay7_at (a : FVec Ideal S128x16x288 .f32) (b : FVec Ideal S128x32x288 .f32) (c : FVec Ideal S128x288 .f32)
    (w : FVec Ideal S32x16x16 .f32) (g : FVec Ideal S1x16 .f32) (p : Fin 128)
    (ha : ∀ e n, a (ix3 p e n) = ((vote X Wc n e : ℝ) : EReal)) (hb : ∀ m n, b (ix3 p m n) = ((P m n : ℝ) : EReal))
    (hc : ∀ n, c (ix2 p n) = ((∑ m, rowInv P (colSeq P 5) m * P m n : ℝ) : EReal))
    (hw : ∀ m a b, w (ix3 m a b) = (((if hi a = hi b then 1 else 0) * wn m (lo a) (lo b) : ℝ) : EReal))
    (m : Fin 32) (e : Fin 16) :
    k0_pay7 (F := Ideal) a b c (1 : EReal) w g (ix3 p m e) = ((normed X Wc wn Consts.eps m e : ℝ) : EReal) * g (ix2 0 e) := by
  have hP : ∀ m n, 0 < P m n := fun m n => by rw [hPM]; exact Real.exp_pos _
  have hc' : ∀ n, Ideal.div 1 (c (ix2 p n)) = ((colSeq P 6 n : ℝ) : EReal) := fun n => by
    rw [hc]
    exact Consts.div_coe' (colSum_pos hP (rowInv_pos hP (colSeq_pos hP 5)) n).ne'
  have hG : ∀ m e, (∑ n, ((P m n : ℝ) : EReal) * (((vote X Wc n e : ℝ) : EReal) * ((colSeq P 7 n : ℝ) : EReal))) * ((rowInv P (colSeq P 6) m : ℝ) : EReal)
      = ((gathered X Wc wn m e : ℝ) : EReal) := fun m e => by
    simp only [← EReal.coe_mul, Consts.coe_sum]
    rw [gathered, Finset.sum_mul]
    congr 1
    exact Finset.sum_congr rfl fun n _ => by rw [attn_eq X Wc wn M P hPM]; ring
  have hN : ∀ m e, ∑ e', (((if hi e' = hi e then 1 else 0) * wn m (lo e') (lo e) : ℝ) : EReal) * ((gathered X Wc wn m e' : ℝ) : EReal)
      = ((pose X Wc wn m e : ℝ) : EReal) := fun m e => by
    simp only [← EReal.coe_mul, Consts.coe_sum]
    congr 1
    rw [pose]
    refine Eq.trans ?_ ((sum_row (hi e) fun e' => gathered X Wc wn m e' * wn m (lo e') (lo e)).trans ?_)
    · exact Finset.sum_congr rfl fun d _ => by ring
    · simp
  have hv : 0 < var X Wc wn m + Consts.eps := add_pos_of_nonneg_of_pos (var_nonneg ..) Consts.eps_pos
  have hm : ∀ m, (∑ e, pose X Wc wn m e) / 16 = mean X Wc wn m := fun m => rfl
  have hvar : (∑ e, (pose X Wc wn m e - mean X Wc wn m) * (pose X Wc wn m e - mean X Wc wn m)) / 16 = var X Wc wn m := rfl
  pointwise [k0_pay7]
  simp only [ha, hb, hc', hw, row_next P hP, col_next P hP, Nat.reduceAdd, hG, hN]
  simp only [Consts.coe_sum, Consts.ofBits_16, Consts.ofBits_eps, Consts.div_coe' (show (16 : ℝ) ≠ 0 by norm_num), hm, Consts.sub_coe, ← EReal.coe_mul, hvar,
    ← EReal.coe_add, Ideal.rsqrt_coe, if_neg (not_lt.2 hv.le), if_neg hv.ne']
  rfl

end Pose

end Cert.KernelIdeal.Body

end
-- ==== Proof.Host.lean ====
/- What the kernel's host part prepares for the kernel call: each of the six arrays the call stages, as a term over the
   arguments (the operations before the call, read in five stretches of the list), and that term read at an index.
   `win` are the shifted image strips, `kcat` the input votes' weights spread over a 16 × 16 block diagonal, `gcat` the
   products of the output weights spread likewise, `wspread` the output weights spread likewise. -/
module

public import proofs.«01_k».proof.Proof.Gen.KernelIdeal.Frame
public import Idealize.ShloMosaic.Lib.Pointwise
public import Idealize.ShloMosaic.Lib.Claim
public import Idealize.ShloMosaic.Lib.StableHlo.RunClose

@[expose] public section

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

/-! ## The arrays as terms -/

/-- The image with a border of zeros, one pixel wide. -/
def padded (x : FVec Ideal S4x32x32x32x16 .f32) : FVec Ideal S4x32x34x34x16 .f32 :=
  pad S4x32x34x34x16 ![0, 0, 1, 1, 0] ![0, 0, 1, 1, 0] ![0, 0, 0, 0, 0] x (sitofp .f32 (constantI S_ 32 0#32)) pads_S4x32x32x32x16_S4x32x34x34x16_000_000_110_110_000 h_S_

/-- The three column shifts of the bordered image, stacked. -/
def shifts (x : FVec Ideal S4x32x32x32x16 .f32) : FVec Ideal S4x3x32x34x32x16 .f32 :=
  concatenate S4x3x32x34x32x16 1
    [⟨S4x1x32x34x32x16, broadcastInDim S4x1x32x34x32x16 ![0, 2, 3, 4, 5] bcast_S4x32x34x32x16_S4x1x32x34x32x16_0_2_3_4_5 (extractStridedSlice S4x32x34x32x16 ![0, 0, 0, 0, 0] (padded x) slices_S4x32x34x34x16_S4x32x34x32x16_0_0_0_0_0)⟩,
     ⟨S4x1x32x34x32x16, broadcastInDim S4x1x32x34x32x16 ![0, 2, 3, 4, 5] bcast_S4x32x34x32x16_S4x1x32x34x32x16_0_2_3_4_5 (extractStridedSlice S4x32x34x32x16 ![0, 0, 0, 1, 0] (padded x) slices_S4x32x34x34x16_S4x32x34x32x16_0_0_0_1_0)⟩,
     ⟨S4x1x32x34x32x16, broadcastInDim S4x1x32x34x32x16 ![0, 2, 3, 4, 5] bcast_S4x32x34x32x16_S4x1x32x34x32x16_0_2_3_4_5 (extractStridedSlice S4x32x34x32x16 ![0, 0, 0, 2, 0] (padded x) slices_S4x32x34x34x16_S4x32x34x32x16_0_0_0_2_0)⟩]
    concatenates_S4x1x32x34x32x16_S4x1x32x34x32x16_S4x1x32x34x32x16_S4x3x32x34x32x16_d1

/-- Six rows of the shifted images, from row `k` on. -/
def strip (k : BitVec 32) (y : FVec Ideal S4x3x32x34x32x16 .f32) : FVec Ideal S4x3x32x6x32x16 .f32 :=
  Host.dynamicSlice S4x3x32x6x32x16 y
    (fun j => (![constantI S_ 32 0#32, constantI S_ 32 0#32, constantI S_ 32 0#32, constantI S_ 32 k, constantI S_ 32 0#32, constantI S_ 32 0#32] j (Shape.Idx.first h_S_)).toInt)
    sliceFits_S4x3x32x34x32x16_S4x3x32x6x32x16

/-- Eight strips, one per block of four rows, stacked, batch and block joined into one axis. -/
def win (y0 y1 y2 y3 y4 y5 y6 y7 : FVec Ideal S4x3x32x6x32x16 .f32) : FVec Ideal S32x3x32x6x32x16 .f32 :=
  shapeCast S32x3x32x6x32x16 (concatenate S4x8x3x32x6x32x16 1
    [⟨S4x1x3x32x6x32x16, broadcastInDim S4x1x3x32x6x32x16 ![0, 2, 3, 4, 5, 6] bcast_S4x3x32x6x32x16_S4x1x3x32x6x32x16_0_2_3_4_5_6 y0⟩,
     ⟨S4x1x3x32x6x32x16, broadcastInDim S4x1x3x32x6x32x16 ![0, 2, 3, 4, 5, 6] bcast_S4x3x32x6x32x16_S4x1x3x32x6x32x16_0_2_3_4_5_6 y1⟩,
     ⟨S4x1x3x32x6x32x16, broadcastInDim S4x1x3x32x6x32x16 ![0, 2, 3, 4, 5, 6] bcast_S4x3x32x6x32x16_S4x1x3x32x6x32x16_0_2_3_4_5_6 y2⟩,
     ⟨S4x1x3x32x6x32x16, broadcastInDim S4x1x3x32x6x32x16 ![0, 2, 3, 4, 5, 6] bcast_S4x3x32x6x32x16_S4x1x3x32x6x32x16_0_2_3_4_5_6 y3⟩,
     ⟨S4x1x3x32x6x32x16, broadcastInDim S4x1x3x32x6x32x16 ![0, 2, 3, 4, 5, 6] bcast_S4x3x32x6x32x16_S4x1x3x32x6x32x16_0_2_3_4_5_6 y4⟩,
     ⟨S4x1x3x32x6x32x16, broadcastInDim S4x1x3x32x6x32x16 ![0, 2, 3, 4, 5, 6] bcast_S4x3x32x6x32x16_S4x1x3x32x6x32x16_0_2_3_4_5_6 y5⟩,
     ⟨S4x1x3x32x6x32x16, broadcastInDim S4x1x3x32x6x32x16 ![0, 2, 3, 4, 5, 6] bcast_S4x3x32x6x32x16_S4x1x3x32x6x32x16_0_2_3_4_5_6 y6⟩,
     ⟨S4x1x3x32x6x32x16, broadcastInDim S4x1x3x32x6x32x16 ![0, 2, 3, 4, 5, 6] bcast_S4x3x32x6x32x16_S4x1x3x32x6x32x16_0_2_3_4_5_6 y7⟩]
    concatenates_S4x1x3x32x6x32x16_S4x1x3x32x6x32x16_S4x1x3x32x6x32x16_S4x1x3x32x6x32x16_S4x1x3x32x6x32x16_S4x1x3x32x6x32x16_S4x1x3x32x6x32x16_S4x1x3x32x6x32x16_S4x8x3x32x6x32x16_d1) shapeCasts_S4x8x3x32x6x32x16_S32x3x32x6x32x16

/-- The 4 × 4 identity matrix. -/
def eye : FVec Ideal S4x4 .f32 :=
  uitofp .f32 (cmpi .eq (addi (iotaInDim S4x4 32 0) (broadcastInDim S4x4 ![] bcast_S_S4x4 (constantI S_ 32 0#32))) (iotaInDim S4x4 32 1))

/-- The input weights spread over block-diagonal 16 × 16 matrices, per channel and kernel position. -/
def kspread (w : FVec Ideal S3x3x32x4x4 .f32) : FVec Ideal S32x3x3x16x16 .f32 :=
  shapeCast S32x3x3x16x16 (mulf
    (broadcastInDim S32x9x4x4x4x4 ![0, 1, 2, 3, 4, 5] bcast_S1x1x4x1x4x1_S32x9x4x4x4x4_0_1_2_3_4_5
      (broadcastInDim S1x1x4x1x4x1 ![2, 4] bcast_S4x4_S1x1x4x1x4x1_2_4 eye))
    (broadcastInDim S32x9x4x4x4x4 ![0, 1, 2, 3, 4, 5] bcast_S32x9x1x4x1x4_S32x9x4x4x4x4_0_1_2_3_4_5
      (broadcastInDim S32x9x1x4x1x4 ![0, 1, 3, 5] bcast_S32x9x4x4_S32x9x1x4x1x4_0_1_3_5
        (shapeCast S32x9x4x4 (transpose S32x3x3x4x4 [2, 0, 1, 3, 4] w transposes_S3x3x32x4x4_S32x3x3x4x4_2_0_1_3_4) shapeCasts_S32x3x3x4x4_S32x9x4x4))))
    shapeCasts_S32x9x4x4x4x4_S32x3x3x16x16

/-- The spread input weights regrouped: column shift and channel first, the three row shifts side by side. -/
def kcat (k : FVec Ideal S32x3x3x16x16 .f32) : FVec Ideal S96x16x48 .f32 :=
  shapeCast S96x16x48 (concatenate S3x32x16x48 0
    [⟨S1x32x16x48, broadcastInDim S1x32x16x48 ![1, 2, 3] bcast_S32x16x48_S1x32x16x48_1_2_3 (shapeCast S32x16x48 (transpose S32x16x3x16 [0, 2, 1, 3] (shapeCast S32x3x16x16 (extractStridedSlice S32x3x1x16x16 ![0, 0, 0, 0, 0] k slices_S32x3x3x16x16_S32x3x1x16x16_0_0_0_0_0) shapeCasts_S32x3x1x16x16_S32x3x16x16) transposes_S32x3x16x16_S32x16x3x16_0_2_1_3) shapeCasts_S32x16x3x16_S32x16x48)⟩,
     ⟨S1x32x16x48, broadcastInDim S1x32x16x48 ![1, 2, 3] bcast_S32x16x48_S1x32x16x48_1_2_3 (shapeCast S32x16x48 (transpose S32x16x3x16 [0, 2, 1, 3] (shapeCast S32x3x16x16 (extractStridedSlice S32x3x1x16x16 ![0, 0, 1, 0, 0] k slices_S32x3x3x16x16_S32x3x1x16x16_0_0_1_0_0) shapeCasts_S32x3x1x16x16_S32x3x16x16) transposes_S32x3x16x16_S32x16x3x16_0_2_1_3) shapeCasts_S32x16x3x16_S32x16x48)⟩,
     ⟨S1x32x16x48, broadcastInDim S1x32x16x48 ![1, 2, 3] bcast_S32x16x48_S1x32x16x48_1_2_3 (shapeCast S32x16x48 (transpose S32x16x3x16 [0, 2, 1, 3] (shapeCast S32x3x16x16 (extractStridedSlice S32x3x1x16x16 ![0, 0, 2, 0, 0] k slices_S32x3x3x16x16_S32x3x1x16x16_0_0_2_0_0) shapeCasts_S32x3x1x16x16_S32x3x16x16) transposes_S32x3x16x16_S32x16x3x16_0_2_1_3) shapeCasts_S32x16x3x16_S32x16x48)⟩]
    concatenates_S1x32x16x48_S1x32x16x48_S1x32x16x48_S3x32x16x48_d0) shapeCasts_S3x32x16x48_S96x16x48

/-- The products of the output weights with their own transposes, spread over block-diagonal matrices. -/
def gcat (w : FVec Ideal S32x4x4 .f32) : FVec Ideal S16x512 .f32 :=
  shapeCast S16x512 (mulf
    (broadcastInDim S4x4x32x4x4 ![0, 1, 2, 3, 4] bcast_S4x1x1x4x1_S4x4x32x4x4_0_1_2_3_4
      (broadcastInDim S4x1x1x4x1 ![0, 3] bcast_S4x4_S4x1x1x4x1_0_3 eye))
    (broadcastInDim S4x4x32x4x4 ![0, 1, 2, 3, 4] bcast_S1x4x32x1x4_S4x4x32x4x4_0_1_2_3_4
      (broadcastInDim S1x4x32x1x4 ![1, 2, 4] bcast_S4x32x4_S1x4x32x1x4_1_2_4
        (transpose S4x32x4 [1, 0, 2] (Host.dotGeneral dot_S32x4x4_S32x4x4_S32x4x4_2_2_1_1_0_0 none w w : FVec Ideal S32x4x4 .f32) transposes_S32x4x4_S4x32x4_1_0_2))))
    shapeCasts_S4x4x32x4x4_S16x512

/-- The output weights spread over block-diagonal matrices. -/
def wspread (w : FVec Ideal S32x4x4 .f32) : FVec Ideal S32x16x16 .f32 :=
  shapeCast S32x16x16 (mulf
    (broadcastInDim S32x4x4x4x4 ![0, 1, 2, 3, 4] bcast_S1x4x1x4x1_S32x4x4x4x4_0_1_2_3_4
      (broadcastInDim S1x4x1x4x1 ![1, 3] bcast_S4x4_S1x4x1x4x1_1_3 eye))
    (broadcastInDim S32x4x4x4x4 ![0, 1, 2, 3, 4] bcast_S32x1x4x1x4_S32x4x4x4x4_0_1_2_3_4
      (broadcastInDim S32x1x4x1x4 ![0, 2, 4] bcast_S32x4x4_S32x1x4x1x4_0_2_4 w)))
    shapeCasts_S32x4x4x4x4_S32x16x16

/-! ## The list of operations, cut -/

/-- The operations run in two parts. -/
theorem after_cut (n : ℕ) (l : List (HloOp τ sig (Elt Ideal))) (σ : Valuation τ sig (Elt Ideal)) :
    after l σ = after (l.drop n) (after (l.take n) σ) := by
  rw [← after_append, List.take_append_drop]

set_option maxHeartbeats 4000000

/-- After the first ten operations: the stacked shifts. -/
theorem cut_shifts (σ : Valuation τ sig (Elt Ideal)) :
    (show FVec Ideal S4x3x32x34x32x16 .f32 from after ((hostOps0 (F := Ideal)).take 10) σ (Proc.devRef .tc main_call0_v7)) = shifts (σ (Proc.devRef .tc main_arg0)) := by
  simp only [hostOps0, List.drop_succ_cons, List.drop_zero, List.take_succ_cons, List.take_zero]
  after_results_simp_entrywise
  all_goals rfl

/-- After the next fifty-six: strip 0. -/
theorem cut_strip0 (σ : Valuation τ sig (Elt Ideal)) :
    (show FVec Ideal S4x3x32x6x32x16 .f32 from after (((hostOps0 (F := Ideal)).drop 10).take 56) σ (Proc.devRef .tc main_call0_v8)) = strip 0#32 (σ (Proc.devRef .tc main_call0_v7)) := by
  simp only [hostOps0, List.drop_succ_cons, List.drop_zero, List.take_succ_cons, List.take_zero]
  after_results_simp_entrywise
  all_goals rfl

/-- After the next fifty-six: strip 1. -/
theorem cut_strip1 (σ : Valuation τ sig (Elt Ideal)) :
    (show FVec Ideal S4x3x32x6x32x16 .f32 from after (((hostOps0 (F := Ideal)).drop 10).take 56) σ (Proc.devRef .tc main_call0_v9)) = strip 4#32 (σ (Proc.devRef .tc main_call0_v7)) := by
  simp only [hostOps0, List.drop_succ_cons, List.drop_zero, List.take_succ_cons, List.take_zero]
  after_results_simp_entrywise
  all_goals rfl

/-- After the next fifty-six: strip 2. -/
theorem cut_strip2 (σ : Valuation τ sig (Elt Ideal)) :
    (show FVec Ideal S4x3x32x6x32x16 .f32 from after (((hostOps0 (F := Ideal)).drop 10).take 56) σ (Proc.devRef .tc main_call0_v10)) = strip 8#32 (σ (Proc.devRef .tc main_call0_v7)) := by
  simp only [hostOps0, List.drop_succ_cons, List.drop_zero, List.take_succ_cons, List.take_zero]
  after_results_simp_entrywise
  all_goals rfl

/-- After the next fifty-six: strip 3. -/
theorem cut_strip3 (σ : Valuation τ sig (Elt Ideal)) :
    (show FVec Ideal S4x3x32x6x32x16 .f32 from after (((hostOps0 (F := Ideal)).drop 10).take 56) σ (Proc.devRef .tc main_call0_v11)) = strip 12#32 (σ (Proc.devRef .tc main_call0_v7)) := by
  simp only [hostOps0, List.drop_succ_cons, List.drop_zero, List.take_succ_cons, List.take_zero]
  after_results_simp_entrywise
  all_goals rfl

/-- After the next fifty-six: strip 4. -/
theorem cut_strip4 (σ : Valuation τ sig (Elt Ideal)) :
    (show FVec Ideal S4x3x32x6x32x16 .f32 from after (((hostOps0 (F := Ideal)).drop 10).take 56) σ (Proc.devRef .tc main_call0_v12)) = strip 16#32 (σ (Proc.devRef .tc main_call0_v7)) := by
  simp only [hostOps0, List.drop_succ_cons, List.drop_zero, List.take_succ_cons, List.take_zero]
  after_results_simp_entrywise
  all_goals rfl

/-- After the next fifty-six: strip 5. -/
theorem cut_strip5 (σ : Valuation τ sig (Elt Ideal)) :
    (show FVec Ideal S4x3x32x6x32x16 .f32 from after (((hostOps0 (F := Ideal)).drop 10).take 56) σ (Proc.devRef .tc main_call0_v13)) = strip 20#32 (σ (Proc.devRef .tc main_call0_v7)) := by
  simp only [hostOps0, List.drop_succ_cons, List.drop_zero, List.take_succ_cons, List.take_zero]
  after_results_simp_entrywise
  all_goals rfl

/-- After the next fifty-six: strip 6. -/
theorem cut_strip6 (σ : Valuation τ sig (Elt Ideal)) :
    (show FVec Ideal S4x3x32x6x32x16 .f32 from after (((hostOps0 (F := Ideal)).drop 10).take 56) σ (Proc.devRef .tc main_call0_v14)) = strip 24#32 (σ (Proc.devRef .tc main_call0_v7)) := by
  simp only [hostOps0, List.drop_succ_cons, List.drop_zero, List.take_succ_cons, List.take_zero]
  after_results_simp_entrywise
  all_goals rfl

/-- After the next fifty-six: strip 7. -/
theorem cut_strip7 (σ : Valuation τ sig (Elt Ideal)) :
    (show FVec Ideal S4x3x32x6x32x16 .f32 from after (((hostOps0 (F := Ideal)).drop 10).take 56) σ (Proc.devRef .tc main_call0_v15)) = strip 28#32 (σ (Proc.devRef .tc main_call0_v7)) := by
  simp only [hostOps0, List.drop_succ_cons, List.drop_zero, List.take_succ_cons, List.take_zero]
  after_results_simp_entrywise
  all_goals rfl

/-- After the rest: the stacked strips. -/
theorem cut_win (σ : Valuation τ sig (Elt Ideal)) :
    (show FVec Ideal S32x3x32x6x32x16 .f32 from after (((hostOps0 (F := Ideal)).drop 10).drop 56) σ (Proc.devRef .tc main_call0_v25)) = win (σ (Proc.devRef .tc main_call0_v8)) (σ (Proc.devRef .tc main_call0_v9)) (σ (Proc.devRef .tc main_call0_v10)) (σ (Proc.devRef .tc main_call0_v11)) (σ (Proc.devRef .tc main_call0_v12)) (σ (Proc.devRef .tc main_call0_v13)) (σ (Proc.devRef .tc main_call0_v14)) (σ (Proc.devRef .tc main_call0_v15)) := by
  simp only [hostOps0, List.drop_succ_cons, List.drop_zero, List.take_succ_cons, List.take_zero]
  after_results_simp_entrywise
  all_goals rfl

/-- After ninety-one operations: the spread input weights. -/
theorem cut_kspread (σ : Valuation τ sig (Elt Ideal)) :
    (show FVec Ideal S32x3x3x16x16 .f32 from after ((hostOps0 (F := Ideal)).take 91) σ (Proc.devRef .tc main_call0_v39)) = kspread (σ (Proc.devRef .tc main_arg1)) := by
  simp only [hostOps0, List.drop_succ_cons, List.drop_zero, List.take_succ_cons, List.take_zero]
  after_results_simp_entrywise
  all_goals rfl

/-- After the rest: the regrouped input weights. -/
theorem cut_kcat (σ : Valuation τ sig (Elt Ideal)) :
    (show FVec Ideal S96x16x48 .f32 from after ((hostOps0 (F := Ideal)).drop 91) σ (Proc.devRef .tc main_call0_v56)) = kcat (σ (Proc.devRef .tc main_call0_v39)) := by
  simp only [hostOps0, List.drop_succ_cons, List.drop_zero, List.take_succ_cons, List.take_zero]
  after_results_simp_entrywise
  all_goals rfl

/-- After all: the spread products of the output weights. -/
theorem all_gcat (σ : Valuation τ sig (Elt Ideal)) :
    (show FVec Ideal S16x512 .f32 from after (hostOps0 (F := Ideal)) σ (Proc.devRef .tc main_call0_v64)) = gcat (σ (Proc.devRef .tc main_arg2)) := by
  simp only [hostOps0, List.drop_succ_cons, List.drop_zero, List.take_succ_cons, List.take_zero]
  after_results_simp_entrywise
  all_goals rfl

/-- After all: the spread output weights. -/
theorem all_wspread (σ : Valuation τ sig (Elt Ideal)) :
    (show FVec Ideal S32x16x16 .f32 from after (hostOps0 (F := Ideal)) σ (Proc.devRef .tc main_call0_v70)) = wspread (σ (Proc.devRef .tc main_arg2)) := by
  simp only [hostOps0, List.drop_succ_cons, List.drop_zero, List.take_succ_cons, List.take_zero]
  after_results_simp_entrywise
  all_goals rfl

/-- After all: the scale as a row. -/
theorem all_gamma (σ : Valuation τ sig (Elt Ideal)) :
    (show FVec Ideal S1x16 .f32 from after (hostOps0 (F := Ideal)) σ (Proc.devRef .tc main_call0_v71)) = shapeCast S1x16 (show FVec Ideal S16 .f32 from σ (Proc.devRef .tc main_arg3)) shapeCasts_S16_S1x16 := by
  simp only [hostOps0, List.drop_succ_cons, List.drop_zero, List.take_succ_cons, List.take_zero]
  after_results_simp_entrywise
  all_goals rfl

/-- After all: the shift as a row. -/
theorem all_beta (σ : Valuation τ sig (Elt Ideal)) :
    (show FVec Ideal S1x16 .f32 from after (hostOps0 (F := Ideal)) σ (Proc.devRef .tc main_call0_v72)) = shapeCast S1x16 (show FVec Ideal S16 .f32 from σ (Proc.devRef .tc main_arg4)) shapeCasts_S16_S1x16 := by
  simp only [hostOps0, List.drop_succ_cons, List.drop_zero, List.take_succ_cons, List.take_zero]
  after_results_simp_entrywise
  all_goals rfl

end Cert.KernelIdeal.Host

end
-- ==== Proof.HostRead.lean ====
/- The arrays the kernel call stages, at an index, when the image and the weights are real: the staged arrays are real too,
   and these are their entries over the coordinates of the arguments. -/
module

public import proofs.«01_k».proof.Proof.Host
public import proofs.«01_k».proof.Proof.Patch
public import proofs.«01_k».proof.Proof.Consts

@[expose] public section

set_option backward.proofsInPublic true
set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen Cert.Spec

/-! ## The terms at an index -/

/-- The bordered image of reals. -/
theorem padded_at (x : FVec Ideal S4x32x32x32x16 .f32) (xr : Fin 4 → Fin 32 → Fin 32 → Fin 32 → Fin 16 → ℝ)
    (hx : ∀ b c h w e, x (ix5 b c h w e) = ((xr b c h w e : ℝ) : EReal)) (b : Fin 4) (c : Fin 32) (h w : Fin 34) (e : Fin 16) :
    padded x (ix5 b c h w e) = ((padR xr b c h.val w.val e : ℝ) : EReal) := by
  pointwise [padded]
  unfold padR
  split
  · exact hx ..
  · show ((((0#32 : BitVec 32).toInt : ℝ)) : EReal) = _
    simp

/-- The three column shifts of the padded image, at an index. -/
theorem shifts_at (x : FVec Ideal S4x32x32x32x16 .f32) (b : Fin 4) (k : Fin 3) (c : Fin 32) (h : Fin 34) (w : Fin 32) (e : Fin 16) :
    shifts x (ix6 b k c h w e) = padded x (ix5 b c h ⟨k.val + w.val, by omega⟩ e) := by
  pointwise [shifts]
  split_ifs <;> exact congrArg (fun z => padded x (ix5 b c h z e)) (Fin.ext (by simp only []; omega))

/-- A strip of six rows of the shifted images, from a row that is given by its word. -/
theorem strip_at (k : BitVec 32) (q : ℕ) (hk : k.toInt = q) (hq : q ≤ 28) (x : FVec Ideal S4x3x32x34x32x16 .f32)
    (b : Fin 4) (j : Fin 3) (c : Fin 32) (r : Fin 6) (w : Fin 32) (e : Fin 16) :
    strip k x (ix6 b j c r w e) = x (ix6 b j c ⟨q + r.val, by omega⟩ w e) := by
  pointwise [strip]
  congr 1
  congr 1
  · exact Fin.ext (by simp only []; rw [Host.clampedStart_of_le _ _ _ 0 rfl (by decide)]; omega)
  · exact Fin.ext (by simp only []; rw [Host.clampedStart_of_le _ _ _ 0 rfl (by decide)]; omega)
  · exact Fin.ext (by simp only []; rw [Host.clampedStart_of_le _ _ _ 0 rfl (by decide)]; omega)
  · exact Fin.ext (by simp only []; rw [Host.clampedStart_of_le _ _ _ q hk (show q + 6 ≤ 34 by omega)])
  · exact Fin.ext (by simp only []; rw [Host.clampedStart_of_le _ _ _ 0 rfl (by decide)]; omega)
  · exact Fin.ext (by simp only []; rw [Host.clampedStart_of_le _ _ _ 0 rfl (by decide)]; omega)

/-- The stacked strips of one array of rows: block `k` starts at row `4 * k`. -/
theorem win_at (y : FVec Ideal S4x3x32x34x32x16 .f32) (b : Fin 32) (j : Fin 3) (c : Fin 32) (r : Fin 6) (w : Fin 32) (e : Fin 16) :
    win (strip 0#32 y) (strip 4#32 y) (strip 8#32 y) (strip 12#32 y) (strip 16#32 y) (strip 20#32 y) (strip 24#32 y) (strip 28#32 y) (ix6 b j c r w e)
      = y (ix6 ⟨b.val / 8, by omega⟩ j c ⟨4 * (b.val % 8) + r.val, by omega⟩ w e) := by
  pointwise [win]
  have key : ∀ (k : BitVec 32) (q : ℕ), k.toInt = q → q = 4 * (b.val % 8) →
      strip k y (ix6 ⟨b.val / 8, by omega⟩ j c r w e) = y (ix6 ⟨b.val / 8, by omega⟩ j c ⟨4 * (b.val % 8) + r.val, by omega⟩ w e) := fun k q hk hq => by
    subst hq
    exact strip_at k _ hk (by omega) y ..
  have h8 : b.val % 8 = 0 ∨ b.val % 8 = 1 ∨ b.val % 8 = 2 ∨ b.val % 8 = 3 ∨ b.val % 8 = 4 ∨ b.val % 8 = 5 ∨ b.val % 8 = 6 ∨ b.val % 8 = 7 := by omega
  rcases h8 with h | h | h | h | h | h | h | h
  · refine Eq.trans ?_ (key 0#32 0 (by decide) (by omega)); simp only [h, Nat.reduceSub, Nat.reduceLT, ↓reduceDIte]
  · refine Eq.trans ?_ (key 4#32 4 (by decide) (by omega)); simp only [h, Nat.reduceSub, Nat.reduceLT, ↓reduceDIte]
  · refine Eq.trans ?_ (key 8#32 8 (by decide) (by omega)); simp only [h, Nat.reduceSub, Nat.reduceLT, ↓reduceDIte]
  · refine Eq.trans ?_ (key 12#32 12 (by decide) (by omega)); simp only [h, Nat.reduceSub, Nat.reduceLT, ↓reduceDIte]
  · refine Eq.trans ?_ (key 16#32 16 (by decide) (by omega)); simp only [h, Nat.reduceSub, Nat.reduceLT, ↓reduceDIte]
  · refine Eq.trans ?_ (key 20#32 20 (by decide) (by omega)); simp only [h, Nat.reduceSub, Nat.reduceLT, ↓reduceDIte]
  · refine Eq.trans ?_ (key 24#32 24 (by decide) (by omega)); simp only [h, Nat.reduceSub, Nat.reduceLT, ↓reduceDIte]
  · refine Eq.trans ?_ (key 28#32 28 (by decide) (by omega)); simp only [h, Nat.reduceSub, Nat.reduceLT, ↓reduceDIte]

/-- The identity matrix: one on the diagonal, zero off it. -/
theorem eye_at (i j : Fin 4) : eye (ix2 i j) = (((if i = j then 1 else 0 : ℝ)) : EReal) := by
  pointwise [eye]
  show (((IntOp.cmpi .eq (IntOp.addi (BitVec.ofNat 32 i.val) 0#32) (BitVec.ofNat 32 j.val)).toNat : ℝ) : EReal) = _
  congr 1
  fin_cases i <;> fin_cases j <;> simp [IntOp.cmpi, IntOp.addi]

/-- The block-diagonal kernels, three to an entry, at an index. -/
theorem kcat_at (x : FVec Ideal S3x3x32x4x4 .f32) (wr : Fin 3 → Fin 3 → Fin 32 → Fin 4 → Fin 4 → ℝ)
    (hx : ∀ i j c a b, x (ix5 i j c a b) = ((wr i j c a b : ℝ) : EReal)) (c : Fin 96) (a : Fin 16) (b : Fin 48) :
    kcat (kspread x) (ix3 c a b) = (((if hi a = hi ⟨b.val % 16, by omega⟩ then 1 else 0)
      * wr ⟨b.val / 16, by omega⟩ ⟨c.val / 32, by omega⟩ ⟨c.val % 32, by omega⟩ (lo a) (lo ⟨b.val % 16, by omega⟩) : ℝ) : EReal) := by
  have hs : ∀ (c : Fin 32) (i j : Fin 3) (a b : Fin 16), kspread x (ix5 c i j a b)
      = (((if hi a = hi b then 1 else 0) * wr i j c (lo a) (lo b) : ℝ) : EReal) := fun c i j a b => by
    pointwise [kspread]
    rw [eye_at, hx, ← EReal.coe_mul]
    rfl
  pointwise [kcat]
  have h3 : c.val / 32 = 0 ∨ c.val / 32 = 1 ∨ c.val / 32 = 2 := by omega
  rcases h3 with h3 | h3 | h3 <;> simp [h3, hs] <;> rfl

/-- The block-diagonal Gram matrices of the pose maps, at an index. -/
theorem gcat_at (x : FVec Ideal S32x4x4 .f32) (wn : Fin 32 → Fin 4 → Fin 4 → ℝ)
    (hx : ∀ m a b, x (ix3 m a b) = ((wn m a b : ℝ) : EReal)) (a : Fin 16) (m : Fin 32) (e : Fin 16) :
    gcat x (ix2 a ⟨m.val * 16 + e.val, by omega⟩) = (((if hi a = hi e then 1 else 0) * ∑ k, wn m (lo a) k * wn m (lo e) k : ℝ) : EReal) := by
  pointwise [gcat]
  simp only [eye_at, hx, ← EReal.coe_mul, Consts.coe_sum]
  have h2 : (⟨(m.val * 16 + e.val) / 4 % 4, by omega⟩ : Fin 4) = hi e := Fin.ext (by simp only [hi]; omega)
  have h3 : (⟨(m.val * 16 + e.val) % 4, by omega⟩ : Fin 4) = lo e := Fin.ext (by simp only [lo]; omega)
  rw [h2, h3]
  rfl

/-- The block-diagonal pose maps, at an index. -/
theorem wspread_at (x : FVec Ideal S32x4x4 .f32) (wn : Fin 32 → Fin 4 → Fin 4 → ℝ)
    (hx : ∀ m a b, x (ix3 m a b) = ((wn m a b : ℝ) : EReal)) (m : Fin 32) (a b : Fin 16) :
    wspread x (ix3 m a b) = (((if hi a = hi b then 1 else 0) * wn m (lo a) (lo b) : ℝ) : EReal) := by
  pointwise [wspread]
  rw [eye_at, hx, ← EReal.coe_mul]
  rfl

/-! ## The staged arrays -/

/-- Equal strips stack equally. -/
theorem win_congr {y0 y1 y2 y3 y4 y5 y6 y7 z0 z1 z2 z3 z4 z5 z6 z7 : FVec Ideal S4x3x32x6x32x16 .f32}
    (h0 : y0 = z0) (h1 : y1 = z1) (h2 : y2 = z2) (h3 : y3 = z3) (h4 : y4 = z4) (h5 : y5 = z5) (h6 : y6 = z6) (h7 : y7 = z7) :
    win y0 y1 y2 y3 y4 y5 y6 y7 = win z0 z1 z2 z3 z4 z5 z6 z7 := by
  subst h0 h1 h2 h3 h4 h5 h6 h7; rfl

/-- The image strips after the host's operations, as a term. -/
theorem all_win (σ : Valuation τ sig (Elt Ideal)) (y : FVec Ideal S4x3x32x34x32x16 .f32)
    (hy : shifts (show FVec Ideal S4x32x32x32x16 .f32 from σ (Proc.devRef .tc main_arg0)) = y) :
    (show FVec Ideal S32x3x32x6x32x16 .f32 from after (hostOps0 (F := Ideal)) σ (Proc.devRef .tc main_call0_v25))
      = win (strip 0#32 y) (strip 4#32 y) (strip 8#32 y) (strip 12#32 y) (strip 16#32 y) (strip 20#32 y) (strip 24#32 y) (strip 28#32 y) := by
  rw [after_cut 10, after_cut 56 (hostOps0.drop 10)]
  refine (cut_win _).trans (win_congr ?_ ?_ ?_ ?_ ?_ ?_ ?_ ?_)
  · exact (cut_strip0 _).trans (congrArg (strip _) ((cut_shifts σ).trans hy))
  · exact (cut_strip1 _).trans (congrArg (strip _) ((cut_shifts σ).trans hy))
  · exact (cut_strip2 _).trans (congrArg (strip _) ((cut_shifts σ).trans hy))
  · exact (cut_strip3 _).trans (congrArg (strip _) ((cut_shifts σ).trans hy))
  · exact (cut_strip4 _).trans (congrArg (strip _) ((cut_shifts σ).trans hy))
  · exact (cut_strip5 _).trans (congrArg (strip _) ((cut_shifts σ).trans hy))
  · exact (cut_strip6 _).trans (congrArg (strip _) ((cut_shifts σ).trans hy))
  · exact (cut_strip7 _).trans (congrArg (strip _) ((cut_shifts σ).trans hy))

/-- The image strips after the host's operations. -/
theorem after_win (σ : Valuation τ sig (Elt Ideal)) (xr : Fin 4 → Fin 32 → Fin 32 → Fin 32 → Fin 16 → ℝ)
    (hx : ∀ b c h w e, (show FVec Ideal S4x32x32x32x16 .f32 from σ (Proc.devRef .tc main_arg0)) (ix5 b c h w e) = ((xr b c h w e : ℝ) : EReal))
    (b : Fin 32) (j : Fin 3) (c : Fin 32) (r : Fin 6) (w : Fin 32) (e : Fin 16) :
    (show FVec Ideal S32x3x32x6x32x16 .f32 from after (hostOps0 (F := Ideal)) σ (Proc.devRef .tc main_call0_v25)) (ix6 b j c r w e)
      = ((padR xr ⟨b.val / 8, by omega⟩ c (4 * (b.val % 8) + r.val) (j.val + w.val) e : ℝ) : EReal) := by
  refine (congrFun (all_win σ _ rfl) _).trans ?_
  rw [win_at, shifts_at, padded_at _ xr hx]

/-- The spread input weights after the host's operations. -/
theorem after_kcat (σ : Valuation τ sig (Elt Ideal)) (wr : Fin 3 → Fin 3 → Fin 32 → Fin 4 → Fin 4 → ℝ)
    (hx : ∀ i j c a b, (show FVec Ideal S3x3x32x4x4 .f32 from σ (Proc.devRef .tc main_arg1)) (ix5 i j c a b) = ((wr i j c a b : ℝ) : EReal))
    (c : Fin 96) (a : Fin 16) (b : Fin 48) :
    (show FVec Ideal S96x16x48 .f32 from after (hostOps0 (F := Ideal)) σ (Proc.devRef .tc main_call0_v56)) (ix3 c a b)
      = (((if hi a = hi ⟨b.val % 16, by omega⟩ then 1 else 0)
          * wr ⟨b.val / 16, by omega⟩ ⟨c.val / 32, by omega⟩ ⟨c.val % 32, by omega⟩ (lo a) (lo ⟨b.val % 16, by omega⟩) : ℝ) : EReal) := by
  rw [after_cut 91]
  exact (congrFun ((cut_kcat _).trans (congrArg kcat (cut_kspread σ))) _).trans (kcat_at _ wr hx ..)

end Cert.KernelIdeal.Host

end
-- ==== Proof.Value.lean ====
/- The array the kernel leaves, whole: every block of four image rows is written once, and holds the layer's result there. -/
module

public import proofs.«01_k».proof.Proof.Body
public import proofs.«01_k».proof.Proof.HostRead
public import Idealize.ShloMosaic.Lib.Pipeline.ValueKit

@[expose] public section

set_option backward.proofsInPublic true
set_option maxRecDepth 16384
set_option maxHeartbeats 1600000

noncomputable section

namespace Cert.KernelIdeal.Value

open Idealize.ShloMosaic Idealize.ShloMosaic.TcCoe Idealize.SL.Sem Idealize.ShloMosaic.StableHlo
open Cert.KernelIdeal Cert.KernelIdeal.Gen Cert.Spec

/-- The layer's result as an array. -/
def result (xr : Fin 4 → Fin 32 → Fin 32 → Fin 32 → Fin 16 → ℝ) (wr : Fin 3 → Fin 3 → Fin 32 → Fin 4 → Fin 4 → ℝ)
    (wn : Fin 32 → Fin 4 → Fin 4 → ℝ) (ga be : FVec Ideal S16 .f32) : FVec Ideal S4x32x32x32x16 .f32 := fun i =>
  ((normed (patch xr (i 0) (i 2) (i 3)) (kern wr) wn Consts.eps (i 1) (i 4) : ℝ) : EReal) * ga (ix1 (i 4)) + be (ix1 (i 4))

/-- Where each window's block lies at each step. -/
theorem idx : ∀ t : Fin cfg0.N, win0_0.index t = ![t.val, 0, 0, 0, 0, 0] ∧ win0_1.index t = ![0, 0, 0] ∧ win0_2.index t = ![0, 0]
    ∧ win0_3.index t = ![0, 0, 0] ∧ win0_4.index t = ![0, 0] ∧ win0_5.index t = ![0, 0] ∧ win0_6.index t = ![t.val / 8, 0, t.val % 8, 0, 0] :=
  (by decide +kernel : ∀ t : Fin grid0.N, _)

section Payload

open Cert.KernelIdeal.Body

/-- The body's result on one block. -/
theorem payload (x : FVec Ideal S1x3x32x6x32x16 .f32) (kc : FVec Ideal S96x16x48 .f32) (g : FVec Ideal S16x512 .f32)
    (w : FVec Ideal S32x16x16 .f32) (ga be : FVec Ideal S1x16 .f32)
    (xr : Fin 4 → Fin 32 → Fin 32 → Fin 32 → Fin 16 → ℝ) (wr : Fin 3 → Fin 3 → Fin 32 → Fin 4 → Fin 4 → ℝ) (wn : Fin 32 → Fin 4 → Fin 4 → ℝ)
    (b : Fin 4) (hb : Fin 8)
    (hx : ∀ j c r w d, x (ix6 0 j c r w d) = ((padR xr b c (4 * hb.val + r.val) (j.val + w.val) d : ℝ) : EReal))
    (hk : ∀ (c : Fin 96) (a : Fin 16) (e : Fin 48), kc (ix3 c a e) = (((if hi a = hi ⟨e.val % 16, by omega⟩ then 1 else 0)
      * wr ⟨e.val / 16, by omega⟩ ⟨c.val / 32, by omega⟩ ⟨c.val % 32, by omega⟩ (lo a) (lo ⟨e.val % 16, by omega⟩) : ℝ) : EReal))
    (hg : ∀ (a : Fin 16) (m : Fin 32) (e : Fin 16), g (ix2 a ⟨m.val * 16 + e.val, by omega⟩)
      = (((if hi a = hi e then 1 else 0) * ∑ k, wn m (lo a) k * wn m (lo e) k : ℝ) : EReal))
    (hw : ∀ m a b, w (ix3 m a b) = (((if hi a = hi b then 1 else 0) * wn m (lo a) (lo b) : ℝ) : EReal))
    (m : Fin 32) (h : Fin 4) (v : Fin 32) (e : Fin 16) :
    k0_pay1 (F := Ideal) (k0_pay7 (k0_pay2 x kc) (k0_pay5 (k0_pay3 x kc g) (k0_pay4 x kc g)) (k0_pay6 (k0_pay3 x kc g) (k0_pay4 x kc g))
        (FloatOps.ofBits .f32 0x3F800000#32) w ga) be (ix5 0 m h v e)
      = ((normed (patch xr b ⟨4 * hb.val + h.val, by omega⟩ v) (kern wr) wn Consts.eps m e : ℝ) : EReal) * ga (ix2 0 e) + be (ix2 0 e) := by
  obtain ⟨p, hp⟩ : ∃ p : Fin 128, p = ⟨h.val * 32 + v.val, by omega⟩ := ⟨_, rfl⟩
  have hv := pay2_at x kc xr b hb hx wr hk
  have hl := pay3_at x kc g (at128 xr b hb) (kern wr) wn hv hg
  have hX : at128 xr b hb p = patch xr b ⟨4 * hb.val + h.val, by omega⟩ v := by
    unfold at128
    congr 1 <;> exact Fin.ext (by simp only [hp]; omega)
  obtain ⟨M, hM⟩ := pay4_at x kc g (at128 xr b hb) (kern wr) wn hv hg p
  have h5 : ∀ m n, k0_pay5 (F := Ideal) (k0_pay3 x kc g) (k0_pay4 x kc g) (ix3 p m n)
      = ((Real.exp (logit (at128 xr b hb p) (kern wr) wn m n - M) : ℝ) : EReal) := fun m n => by
    pointwise [k0_pay5]
    rw [hl, hM, Consts.sub_coe, Ideal.exp_coe]
  have h6 := pay6_at (fun m n => Real.exp (logit (at128 xr b hb p) (kern wr) wn m n - M))
    (fun m n => Real.exp_pos _) (k0_pay3 x kc g) (k0_pay4 x kc g) p h5
  have h7 := pay7_at (at128 xr b hb p) (kern wr) wn (fun m n => Real.exp (logit (at128 xr b hb p) (kern wr) wn m n - M)) (fun _ => M) (fun m n => rfl)
    (k0_pay2 x kc) (k0_pay5 (k0_pay3 x kc g) (k0_pay4 x kc g)) (k0_pay6 (k0_pay3 x kc g) (k0_pay4 x kc g)) w ga p (hv p) h5 h6 hw m e
  pointwise [k0_pay1]
  rw [← hp, h7, hX]

end Payload

variable (m : (ℓ : Loc nD τ sig) → Buf (Elt Ideal) ℓ) (c : Dev nD) (t : Fin cfg0.N)

/-- Block `t` of the windows array. -/
theorem blk0 (j : Fin 3) (ch : Fin 32) (r : Fin 6) (w : Fin 32) (d : Fin 16) :
    (show FVec Ideal S1x3x32x6x32x16 .f32 from iblk m c 0 t) (ix6 0 j ch r w d)
      = (show FVec Ideal S32x3x32x6x32x16 .f32 from V m c main_call0_v25) (ix6 ⟨t.val, t.isLt⟩ j ch r w d) := by
  obtain ⟨h0, h1, h2, h3, h4, h5, h6⟩ := idx t
  blk_ext [iblk, h0]

/-- The kernels' block is the whole array. -/
theorem blk1 : (show FVec Ideal S96x16x48 .f32 from iblk m c 1 t) = (show FVec Ideal S96x16x48 .f32 from V m c main_call0_v56) := by
  obtain ⟨h0, h1, h2, h3, h4, h5, h6⟩ := idx t
  funext i
  blk_ext [iblk, h1]

/-- The Gram matrices' block is the whole array. -/
theorem blk2 : (show FVec Ideal S16x512 .f32 from iblk m c 2 t) = (show FVec Ideal S16x512 .f32 from V m c main_call0_v64) := by
  obtain ⟨h0, h1, h2, h3, h4, h5, h6⟩ := idx t
  funext i
  blk_ext [iblk, h2]

/-- The spread pose maps' block is the whole array. -/
theorem blk3 : (show FVec Ideal S32x16x16 .f32 from iblk m c 3 t) = (show FVec Ideal S32x16x16 .f32 from V m c main_call0_v70) := by
  obtain ⟨h0, h1, h2, h3, h4, h5, h6⟩ := idx t
  funext i
  blk_ext [iblk, h3]

/-- The scale's block is the whole array. -/
theorem blk4 : (show FVec Ideal S1x16 .f32 from iblk m c 4 t) = (show FVec Ideal S1x16 .f32 from V m c main_call0_v71) := by
  obtain ⟨h0, h1, h2, h3, h4, h5, h6⟩ := idx t
  funext i
  blk_ext [iblk, h4]

/-- The shift's block is the whole array. -/
theorem blk5 : (show FVec Ideal S1x16 .f32 from iblk m c 5 t) = (show FVec Ideal S1x16 .f32 from V m c main_call0_v72) := by
  obtain ⟨h0, h1, h2, h3, h4, h5, h6⟩ := idx t
  funext i
  blk_ext [iblk, h5]

/-- The array the kernel leaves, from arguments whose image and weights are real. -/
theorem final (c : Dev nD) (xr : Fin 4 → Fin 32 → Fin 32 → Fin 32 → Fin 16 → ℝ) (wr : Fin 3 → Fin 3 → Fin 32 → Fin 4 → Fin 4 → ℝ) (wn : Fin 32 → Fin 4 → Fin 4 → ℝ)
    (h0 : ∀ b h v w e, (show FVec Ideal S4x32x32x32x16 .f32 from m ((c : Thread nD τ).loc main_arg0)) (ix5 b h v w e) = ((xr b h v w e : ℝ) : EReal))
    (h1 : ∀ i j h a b, (show FVec Ideal S3x3x32x4x4 .f32 from m ((c : Thread nD τ).loc main_arg1)) (ix5 i j h a b) = ((wr i j h a b : ℝ) : EReal))
    (h2 : ∀ k a b, (show FVec Ideal S32x4x4 .f32 from m ((c : Thread nD τ).loc main_arg2)) (ix3 k a b) = ((wn k a b : ℝ) : EReal)) :
    (dats m 0 c).arrAt 6 (cfgs 0).N = result xr wr wn (m ((c : Thread nD τ).loc main_arg3)) (m ((c : Thread nD τ).loc main_arg4)) := by
  refine (dats m 0 c).arrAt_eq_of_covers 6 _ (by decide +kernel) fun t _ y => ?_
  have hi := idx t
  rw [after0_6]
  blk_simp
  unfold_out out0_6
  frame_out
  idx_vars y
  have hN : t.val < 32 := t.isLt
  refine Eq.trans ?_ (show result xr wr wn (m ((c : Thread nD τ).loc main_arg3)) (m ((c : Thread nD τ).loc main_arg4)) (ix5 ⟨t.val / 8, by omega⟩ y1 ⟨4 * (t.val % 8) + y2.val, by omega⟩ y3 y4)
    = result xr wr wn (m ((c : Thread nD τ).loc main_arg3)) (m ((c : Thread nD τ).loc main_arg4)) (((View.whole main_v0).slice (win0_6.rect t)).emb (ix5 y0 y1 y2 y3 y4)) from ?_)
  rotate_left
  · symm
    blk_ext [hi.2.2.2.2.2.2]
  obtain rfl : y0 = 0 := Subsingleton.elim _ _
  have hga : ∀ e, (show FVec Ideal S1x16 .f32 from iblk m c 4 t) (ix2 0 e) = (show FVec Ideal S16 .f32 from m ((c : Thread nD τ).loc main_arg3)) (ix1 e) := fun e => by
    refine (congrFun ((blk4 m c t).trans (Host.all_gamma _)) _).trans ?_
    pointwise
  have hbe : ∀ e, (show FVec Ideal S1x16 .f32 from iblk m c 5 t) (ix2 0 e) = (show FVec Ideal S16 .f32 from m ((c : Thread nD τ).loc main_arg4)) (ix1 e) := fun e => by
    refine (congrFun ((blk5 m c t).trans (Host.all_beta _)) _).trans ?_
    pointwise
  refine (payload (iblk m c 0 t) (iblk m c 1 t) (iblk m c 2 t) (iblk m c 3 t) (iblk m c 4 t) (iblk m c 5 t) xr wr wn ⟨t.val / 8, by omega⟩ ⟨t.val % 8, by omega⟩
    ?_ ?_ ?_ ?_ y1 y2 y3 y4).trans ?_
  · exact fun j ch r w d => (blk0 m c t j ch r w d).trans (Host.after_win _ xr h0 ..)
  · exact fun a d e => (congrFun (blk1 m c t) _).trans (Host.after_kcat _ wr h1 ..)
  · exact fun a k e => (congrFun ((blk2 m c t).trans (Host.all_gcat _)) _).trans (Host.gcat_at _ wn h2 ..)
  · exact fun k a d => (congrFun ((blk3 m c t).trans (Host.all_wspread _)) _).trans (Host.wspread_at _ wn h2 ..)
  · exact congrArg₂ (fun u v : EReal => ((normed (patch xr ⟨t.val / 8, by omega⟩ ⟨4 * (t.val % 8) + y2.val, by omega⟩ y3) (kern wr) wn Consts.eps y1 y4 : ℝ) : EReal) * u + v) (hga y4) (hbe y4)

end Cert.KernelIdeal.Value

end
-- ==== Proof.RefVote.lean ====
/- The reference up to its votes, at an index, when the image and the weights are real: the window of the image, the input
   matrices, and the votes. -/
module

public import proofs.«01_k».proof.Proof.Gen.ReferenceIdeal.Read
public import proofs.«01_k».proof.Proof.Patch
public import proofs.«01_k».proof.Proof.Consts
public import Idealize.ShloMosaic.Lib.Pointwise

@[expose] public section

set_option backward.proofsInPublic true
set_option maxRecDepth 16384
set_option maxHeartbeats 1600000

noncomputable section

namespace Cert.ReferenceIdeal.Stage

open Idealize.ShloMosaic Idealize.ShloMosaic.TcCoe
open Cert.ReferenceIdeal Cert.ReferenceIdeal.Read Cert.Spec

/-- The row of the image at an output position. -/
def rowOf (p : Fin 1024) : Fin 32 := ⟨p.val / 32, by omega⟩
/-- The column of the image at an output position. -/
def colOf (p : Fin 1024) : Fin 32 := ⟨p.val % 32, by omega⟩

section Image
variable (x0 : FVec Ideal S4x32x32x32x16 .f32) (xr : Fin 4 → Fin 32 → Fin 32 → Fin 32 → Fin 16 → ℝ)
  (h0 : ∀ b c h w e, x0 (ix5 b c h w e) = ((xr b c h w e : ℝ) : EReal))
include h0

/-- The bordered image. -/
theorem v0_at (b : Fin 4) (c : Fin 32) (h w : Fin 34) (e : Fin 16) :
    val_main_v0 (F := Ideal) x0 (ix5 b c h w e) = ((padR xr b c h.val w.val e : ℝ) : EReal) := by
  pointwise [val_main_v0]
  unfold padR
  split
  · exact h0 ..
  · show ((((0#32 : BitVec 32).toInt : ℝ)) : EReal) = _
    simp

/-- The image shifted by 0 rows and 0 columns. -/
theorem v10_at (b : Fin 4) (c : Fin 32) (z : Fin 1) (h w : Fin 32) (e : Fin 16) :
    val_main_v10 (F := Ideal) x0 (ix6 b c z h w e) = ((padR xr b c (h.val + 0) (w.val + 0) e : ℝ) : EReal) := by
  pointwise [val_main_v10, val_main_v1]
  refine (v0_at x0 xr h0 ..).trans ?_
  simp only [Nat.add_comm, Nat.add_zero, Nat.zero_add]

/-- The image shifted by 0 rows and 1 columns. -/
theorem v11_at (b : Fin 4) (c : Fin 32) (z : Fin 1) (h w : Fin 32) (e : Fin 16) :
    val_main_v11 (F := Ideal) x0 (ix6 b c z h w e) = ((padR xr b c (h.val + 0) (w.val + 1) e : ℝ) : EReal) := by
  pointwise [val_main_v11, val_main_v2]
  refine (v0_at x0 xr h0 ..).trans ?_
  simp only [Nat.add_comm, Nat.add_zero, Nat.zero_add]

/-- The image shifted by 0 rows and 2 columns. -/
theorem v12_at (b : Fin 4) (c : Fin 32) (z : Fin 1) (h w : Fin 32) (e : Fin 16) :
    val_main_v12 (F := Ideal) x0 (ix6 b c z h w e) = ((padR xr b c (h.val + 0) (w.val + 2) e : ℝ) : EReal) := by
  pointwise [val_main_v12, val_main_v3]
  refine (v0_at x0 xr h0 ..).trans ?_
  simp only [Nat.add_comm, Nat.add_zero, Nat.zero_add]

/-- The image shifted by 1 rows and 0 columns. -/
theorem v13_at (b : Fin 4) (c : Fin 32) (z : Fin 1) (h w : Fin 32) (e : Fin 16) :
    val_main_v13 (F := Ideal) x0 (ix6 b c z h w e) = ((padR xr b c (h.val + 1) (w.val + 0) e : ℝ) : EReal) := by
  pointwise [val_main_v13, val_main_v4]
  refine (v0_at x0 xr h0 ..).trans ?_
  simp only [Nat.add_comm, Nat.add_zero, Nat.zero_add]

/-- The image shifted by 1 rows and 1 columns. -/
theorem v14_at (b : Fin 4) (c : Fin 32) (z : Fin 1) (h w : Fin 32) (e : Fin 16) :
    val_main_v14 (F := Ideal) x0 (ix6 b c z h w e) = ((padR xr b c (h.val + 1) (w.val + 1) e : ℝ) : EReal) := by
  pointwise [val_main_v14, val_main_v5]
  refine (v0_at x0 xr h0 ..).trans ?_
  simp only [Nat.add_comm, Nat.add_zero, Nat.zero_add]

/-- The image shifted by 1 rows and 2 columns. -/
theorem v15_at (b : Fin 4) (c : Fin 32) (z : Fin 1) (h w : Fin 32) (e : Fin 16) :
    val_main_v15 (F := Ideal) x0 (ix6 b c z h w e) = ((padR xr b c (h.val + 1) (w.val + 2) e : ℝ) : EReal) := by
  pointwise [val_main_v15, val_main_v6]
  refine (v0_at x0 xr h0 ..).trans ?_
  simp only [Nat.add_comm, Nat.add_zero, Nat.zero_add]

/-- The image shifted by 2 rows and 0 columns. -/
theorem v16_at (b : Fin 4) (c : Fin 32) (z : Fin 1) (h w : Fin 32) (e : Fin 16) :
    val_main_v16 (F := Ideal) x0 (ix6 b c z h w e) = ((padR xr b c (h.val + 2) (w.val + 0) e : ℝ) : EReal) := by
  pointwise [val_main_v16, val_main_v7]
  refine (v0_at x0 xr h0 ..).trans ?_
  simp only [Nat.add_comm, Nat.add_zero, Nat.zero_add]

/-- The image shifted by 2 rows and 1 columns. -/
theorem v17_at (b : Fin 4) (c : Fin 32) (z : Fin 1) (h w : Fin 32) (e : Fin 16) :
    val_main_v17 (F := Ideal) x0 (ix6 b c z h w e) = ((padR xr b c (h.val + 2) (w.val + 1) e : ℝ) : EReal) := by
  pointwise [val_main_v17, val_main_v8]
  refine (v0_at x0 xr h0 ..).trans ?_
  simp only [Nat.add_comm, Nat.add_zero, Nat.zero_add]

/-- The image shifted by 2 rows and 2 columns. -/
theorem v18_at (b : Fin 4) (c : Fin 32) (z : Fin 1) (h w : Fin 32) (e : Fin 16) :
    val_main_v18 (F := Ideal) x0 (ix6 b c z h w e) = ((padR xr b c (h.val + 2) (w.val + 2) e : ℝ) : EReal) := by
  pointwise [val_main_v18, val_main_v9]
  refine (v0_at x0 xr h0 ..).trans ?_
  simp only [Nat.add_comm, Nat.add_zero, Nat.zero_add]

/-- The window of the image. -/
theorem v21_at (b : Fin 4) (p : Fin 1024) (n : Fin 288) (i j : Fin 4) :
    val_main_v21 (F := Ideal) x0 (ix5 b p n i j) = ((patch xr b (rowOf p) (colOf p) n (at4 i j) : ℝ) : EReal) := by
  have hd : (⟨i.val * 4 + j.val, by omega⟩ : Fin 16) = at4 i j := Fin.ext (by simp only [at4]; omega)
  have key : ∀ q : ℕ, n.val % 9 = q → patch xr b (rowOf p) (colOf p) n (at4 i j)
      = padR xr b (ch n) ((rowOf p).val + q / 3) ((colOf p).val + q % 3) (at4 i j) := fun q hq => by
    subst hq; rfl
  pointwise [val_main_v21, val_main_v20, val_main_v19]
  have h9 : n.val % 9 = 0 ∨ n.val % 9 = 1 ∨ n.val % 9 = 2 ∨ n.val % 9 = 3 ∨ n.val % 9 = 4 ∨ n.val % 9 = 5 ∨ n.val % 9 = 6 ∨ n.val % 9 = 7 ∨ n.val % 9 = 8 := by omega
  rcases h9 with h | h | h | h | h | h | h | h | h <;> refine Eq.trans ?_ (congrArg (fun r : ℝ => (r : EReal)) (key _ h)).symm
  · simp only [h, hd, Nat.reduceSub, Nat.reduceLT, ↓reduceDIte]; exact v10_at x0 xr h0 ..
  · simp only [h, hd, Nat.reduceSub, Nat.reduceLT, ↓reduceDIte]; exact v11_at x0 xr h0 ..
  · simp only [h, hd, Nat.reduceSub, Nat.reduceLT, ↓reduceDIte]; exact v12_at x0 xr h0 ..
  · simp only [h, hd, Nat.reduceSub, Nat.reduceLT, ↓reduceDIte]; exact v13_at x0 xr h0 ..
  · simp only [h, hd, Nat.reduceSub, Nat.reduceLT, ↓reduceDIte]; exact v14_at x0 xr h0 ..
  · simp only [h, hd, Nat.reduceSub, Nat.reduceLT, ↓reduceDIte]; exact v15_at x0 xr h0 ..
  · simp only [h, hd, Nat.reduceSub, Nat.reduceLT, ↓reduceDIte]; exact v16_at x0 xr h0 ..
  · simp only [h, hd, Nat.reduceSub, Nat.reduceLT, ↓reduceDIte]; exact v17_at x0 xr h0 ..
  · simp only [h, hd, Nat.reduceSub, Nat.reduceLT, ↓reduceDIte]; exact v18_at x0 xr h0 ..

end Image

variable (x1 : FVec Ideal S3x3x32x4x4 .f32) (wr : Fin 3 → Fin 3 → Fin 32 → Fin 4 → Fin 4 → ℝ)
  (h1 : ∀ i j c a b, x1 (ix5 i j c a b) = ((wr i j c a b : ℝ) : EReal))

include h1 in
/-- The matrix of a window position. -/
theorem v23_at (n : Fin 288) (i j : Fin 4) : val_main_v23 (F := Ideal) x1 (ix3 n i j) = ((kern wr n i j : ℝ) : EReal) := by
  pointwise [val_main_v23, val_main_v22]
  refine (h1 ..).trans ?_
  have hr : (⟨n.val / 3 % 3, by omega⟩ : Fin 3) = row n := Fin.ext (by simp only [row]; omega)
  have hc : (⟨n.val % 3, by omega⟩ : Fin 3) = col n := Fin.ext (by simp only [col]; omega)
  rw [hr, hc]
  rfl

variable (x0 : FVec Ideal S4x32x32x32x16 .f32) (xr : Fin 4 → Fin 32 → Fin 32 → Fin 32 → Fin 16 → ℝ)
  (h0 : ∀ b c h w e, x0 (ix5 b c h w e) = ((xr b c h w e : ℝ) : EReal))

include h0 h1 in
/-- The votes. -/
theorem v25_at (b : Fin 4) (p : Fin 1024) (n : Fin 288) (i j : Fin 4) :
    val_main_v25 (F := Ideal) x0 x1 (ix5 b p n i j) = ((vote (patch xr b (rowOf p) (colOf p)) (kern wr) n (at4 i j) : ℝ) : EReal) := by
  pointwise [val_main_v25, val_main_v24]
  simp only [v21_at x0 xr h0, v23_at x1 wr h1, ← EReal.coe_mul, Consts.coe_sum, vote, hi_at4, lo_at4]
  exact congrArg _ (Finset.sum_congr rfl fun x _ => mul_comm _ _)

end Cert.ReferenceIdeal.Stage

end
-- ==== Proof.RefLogit.lean ====
/- The reference up to its logits, at an index: the mean vote, its image under each output capsule's matrix, and how well
   the votes agree with it. -/
module

public import proofs.«01_k».proof.Proof.RefVote

@[expose] public section

set_option backward.proofsInPublic true
set_option maxRecDepth 16384
set_option maxHeartbeats 1600000

noncomputable section

namespace Cert.ReferenceIdeal.Stage

open Idealize.ShloMosaic Idealize.ShloMosaic.TcCoe
open Cert.ReferenceIdeal Cert.ReferenceIdeal.Read Cert.Spec

/-- The exponents of the uniform weights are all the same real. -/
theorem v31_at : ∃ M : ℝ, ∀ n : Fin 288, val_main_v31 (F := Ideal) (ix1 n) = ((M : ℝ) : EReal) := by
  obtain ⟨M, hM⟩ := Consts.fold_max fun _ : Fin 288 => (0 : ℝ)
  refine ⟨0 - M, fun n => ?_⟩
  have h27 : val_main_v27 (F := Ideal) ix0 = (M : EReal) := by
    pointwise [val_main_v27, val_main_v26, val_main_cst, val_main_cst_0]
    rw [Consts.ofBits_bot]
    exact hM
  pointwise [val_main_v31, val_main_v30, val_main_v29, val_main_v28, val_main_v26, val_main_cst, val_main_cst_1]
  rw [h27, Consts.ofBits_bot, max_eq_right bot_le, ← EReal.coe_zero, Consts.sub_coe]

/-- The uniform weights. -/
theorem v36_at (n : Fin 288) : val_main_v36 (F := Ideal) (ix1 n) = ((1 / 288 : ℝ) : EReal) := by
  obtain ⟨M, hM⟩ := v31_at
  have h32 : ∀ n : Fin 288, val_main_v32 (F := Ideal) (ix1 n) = ((Real.exp M : ℝ) : EReal) := fun n => by
    pointwise [val_main_v32]
    rw [hM, Ideal.exp_coe]
  have h33 : val_main_v33 (F := Ideal) ix0 = ((288 * Real.exp M : ℝ) : EReal) := by
    pointwise [val_main_v33, val_main_cst_2]
    simp only [h32, Consts.coe_sum]
    simp
  pointwise [val_main_v36, val_main_v35, val_main_v34]
  have := (Real.exp_pos M).ne'
  rw [h32, h33, Consts.div_coe' (by positivity)]
  congr 1
  field_simp

variable (x0 : FVec Ideal S4x32x32x32x16 .f32) (xr : Fin 4 → Fin 32 → Fin 32 → Fin 32 → Fin 16 → ℝ)
  (h0 : ∀ b c h w e, x0 (ix5 b c h w e) = ((xr b c h w e : ℝ) : EReal))
variable (x1 : FVec Ideal S3x3x32x4x4 .f32) (wr : Fin 3 → Fin 3 → Fin 32 → Fin 4 → Fin 4 → ℝ)
  (h1 : ∀ i j c a b, x1 (ix5 i j c a b) = ((wr i j c a b : ℝ) : EReal))
variable (x2 : FVec Ideal S32x4x4 .f32) (wn : Fin 32 → Fin 4 → Fin 4 → ℝ)
  (h2 : ∀ m a b, x2 (ix3 m a b) = ((wn m a b : ℝ) : EReal))

include h0 h1 in
/-- The mean vote. -/
theorem v37_at (b : Fin 4) (p : Fin 1024) (i j : Fin 4) :
    val_main_v37 (F := Ideal) x0 x1 (ix4 b p i j) = ((query (patch xr b (rowOf p) (colOf p)) (kern wr) (at4 i j) : ℝ) : EReal) := by
  pointwise [val_main_v37]
  simp only [v36_at, v25_at x1 wr h1 x0 xr h0, ← EReal.coe_mul, Consts.coe_sum, query]
  rw [← Finset.mul_sum, one_div_mul_eq_div]

include h0 h1 h2

/-- The mean vote under an output capsule's matrix. -/
theorem v39_at (b : Fin 4) (p : Fin 1024) (m : Fin 32) (i k : Fin 4) :
    val_main_v39 (F := Ideal) x0 x1 x2 (ix5 b p m i k) = ((∑ j, wn m j k * query (patch xr b (rowOf p) (colOf p)) (kern wr) (at4 i j) : ℝ) : EReal) := by
  pointwise [val_main_v39, val_main_v38]
  simp only [h2, v37_at x0 xr h0 x1 wr h1, ← EReal.coe_mul, Consts.coe_sum]

/-- The mean vote sent back through the transpose. -/
theorem v40_at (b : Fin 4) (p : Fin 1024) (m : Fin 32) (i j : Fin 4) :
    val_main_v40 (F := Ideal) x0 x1 x2 (ix5 m j b p i) = ((lifted (patch xr b (rowOf p) (colOf p)) (kern wr) wn m (at4 i j) : ℝ) : EReal) := by
  pointwise [val_main_v40]
  simp only [h2, v39_at x0 xr h0 x1 wr h1 x2 wn h2, ← EReal.coe_mul, Consts.coe_sum, lifted, hi_at4, lo_at4, Finset.mul_sum]
  rw [Finset.sum_comm]
  exact congrArg _ (Finset.sum_congr rfl fun x _ => Finset.sum_congr rfl fun y _ => by ring)

/-- The logits. -/
theorem v45_at (b : Fin 4) (p : Fin 1024) (m : Fin 32) (n : Fin 288) :
    val_main_v45 (F := Ideal) x0 x1 x2 (ix4 b p m n) = ((logit (patch xr b (rowOf p) (colOf p)) (kern wr) wn m n : ℝ) : EReal) := by
  have h41 : val_main_v41 (F := Ideal) x0 x1 x2 (ix4 b p m n) = ((∑ e, lifted (patch xr b (rowOf p) (colOf p)) (kern wr) wn m e * vote (patch xr b (rowOf p) (colOf p)) (kern wr) n e : ℝ) : EReal) := by
    pointwise [val_main_v41]
    simp only [v40_at x0 xr h0 x1 wr h1 x2 wn h2, v25_at x1 wr h1 x0 xr h0, ← EReal.coe_mul, Consts.coe_sum, sum_pose]
  pointwise [val_main_v45, val_main_v44, val_main_v43, val_main_v42, val_main_cst_3, val_main_cst_4]
  rw [h41, Consts.ofBits_4, Consts.ofBits_threeQuarters, Consts.div_coe' (by norm_num), Consts.div_coe' (by norm_num), logit]
  congr 1
  ring

end Cert.ReferenceIdeal.Stage

end
-- ==== Proof.RefRounds.lean ====
/- The reference's normalisation of the attention, at an index: its fourteen half-rounds each subtract from a logarithm the
   logarithm of a sum of exponentials, so the logarithms are those of a matrix whose rows and columns are divided by their sums. -/
module

public import proofs.«01_k».proof.Proof.RefLogit

@[expose] public section

set_option backward.proofsInPublic true
set_option maxRecDepth 16384
set_option maxHeartbeats 1600000

noncomputable section

namespace Cert.ReferenceIdeal.Stage

open Idealize.ShloMosaic Idealize.ShloMosaic.TcCoe
open Cert.ReferenceIdeal Cert.ReferenceIdeal.Read Cert.Spec

/-- A logarithm less the logarithm of a sum, the largest logarithm set aside, is the logarithm of the quotient. -/
theorem half {ι : Type} [Fintype ι] [Nonempty ι] (E : ι → ℝ) (hE : ∀ i, 0 < E i) (i : ι) (f : ι → EReal) (hf : ∀ i, f i = ((Real.log (E i) : ℝ) : EReal)) :
    f i - (Ideal.log (∑ x, Ideal.exp (f x - Finset.fold max (Ideal.ofBits .f32 0xFF800000#32) (fun x => f x) Finset.univ))
      + Finset.fold max (Ideal.ofBits .f32 0xFF800000#32) (fun x => f x) Finset.univ) = ((Real.log (E i / ∑ x, E x) : ℝ) : EReal) := by
  obtain ⟨M, hM⟩ := Consts.fold_max fun x => Real.log (E x)
  have hs : 0 < ∑ x, E x := Finset.sum_pos (fun x _ => hE x) Finset.univ_nonempty
  have hsum : ∑ x, Real.exp (Real.log (E x) - M) = (∑ x, E x) * Real.exp (-M) := by
    rw [Finset.sum_mul]
    exact Finset.sum_congr rfl fun x _ => by rw [sub_eq_add_neg, Real.exp_add, Real.exp_log (hE x)]
  have hpos : 0 < (∑ x, E x) * Real.exp (-M) := mul_pos hs (Real.exp_pos _)
  simp only [hf, Consts.ofBits_bot, hM, Consts.sub_coe, Ideal.exp_coe, Consts.coe_sum, hsum, Ideal.log_coe, if_neg (not_le.2 hpos), ← EReal.coe_add]
  rw [Real.log_mul hs.ne' (Real.exp_pos _).ne', Real.log_exp, Real.log_div (hE i).ne' hs.ne']
  congr 1
  ring

variable (x0 : FVec Ideal S4x32x32x32x16 .f32) (xr : Fin 4 → Fin 32 → Fin 32 → Fin 32 → Fin 16 → ℝ)
  (h0 : ∀ b c h w e, x0 (ix5 b c h w e) = ((xr b c h w e : ℝ) : EReal))
variable (x1 : FVec Ideal S3x3x32x4x4 .f32) (wr : Fin 3 → Fin 3 → Fin 32 → Fin 4 → Fin 4 → ℝ)
  (h1 : ∀ i j c a b, x1 (ix5 i j c a b) = ((wr i j c a b : ℝ) : EReal))
variable (x2 : FVec Ideal S32x4x4 .f32) (wn : Fin 32 → Fin 4 → Fin 4 → ℝ)
  (h2 : ∀ m a b, x2 (ix3 m a b) = ((wn m a b : ℝ) : EReal))

/-- The exponentials of the logits. -/
def start (b : Fin 4) (p : Fin 1024) (m : Fin 32) (n : Fin 288) : ℝ := Real.exp (logit (patch xr b (rowOf p) (colOf p)) (kern wr) wn m n)

/-- The exponentials that the rounds start from are positive. -/
theorem start_pos (b : Fin 4) (p : Fin 1024) (m : Fin 32) (n : Fin 288) : 0 < start xr wr wn b p m n := Real.exp_pos _

include h0 h1 h2

/-- Before the first round. -/
theorem round0 (b : Fin 4) (p : Fin 1024) (m : Fin 32) (n : Fin 288) :
    val_main_v45 (F := Ideal) x0 x1 x2 (ix4 b p m n) = ((Real.log (rounds (start xr wr wn b p) 0 m n) : ℝ) : EReal) := by
  rw [v45_at x0 xr h0 x1 wr h1 x2 wn h2]
  simp only [rounds, start, Real.log_exp]

/-- Round 1, the rows divided. -/
theorem rows1 (b : Fin 4) (p : Fin 1024) (m : Fin 32) (n : Fin 288) :
    val_main_v56 (F := Ideal) x0 x1 x2 (ix4 b p m n) = ((Real.log (rowNorm (rounds (start xr wr wn b p) 0) m n) : ℝ) : EReal) := by
  pointwise [val_main_v46, val_main_v47, val_main_v48, val_main_v49, val_main_v50, val_main_v51, val_main_v52, val_main_v53, val_main_v54, val_main_v55, val_main_v56, val_main_cst_5, val_main_cst_6]
  exact half _ (fun n => rounds_pos (start_pos xr wr wn b p) 0 m n) n (fun x => val_main_v45 (F := Ideal) x0 x1 x2 (ix4 b p m x)) fun x => round0 x0 xr h0 x1 wr h1 x2 wn h2 b p m x

/-- Round 1, the columns divided. -/
theorem round1 (b : Fin 4) (p : Fin 1024) (m : Fin 32) (n : Fin 288) :
    val_main_v67 (F := Ideal) x0 x1 x2 (ix4 b p m n) = ((Real.log (rounds (start xr wr wn b p) 1 m n) : ℝ) : EReal) := by
  pointwise [val_main_v57, val_main_v58, val_main_v59, val_main_v60, val_main_v61, val_main_v62, val_main_v63, val_main_v64, val_main_v65, val_main_v66, val_main_v67, val_main_cst_7, val_main_cst_8]
  exact half _ (fun m => rowNorm_pos (rounds_pos (start_pos xr wr wn b p) 0) m n) m (fun x => val_main_v56 (F := Ideal) x0 x1 x2 (ix4 b p x n)) fun x => rows1 x0 xr h0 x1 wr h1 x2 wn h2 b p x n

/-- Round 2, the rows divided. -/
theorem rows2 (b : Fin 4) (p : Fin 1024) (m : Fin 32) (n : Fin 288) :
    val_main_v78 (F := Ideal) x0 x1 x2 (ix4 b p m n) = ((Real.log (rowNorm (rounds (start xr wr wn b p) 1) m n) : ℝ) : EReal) := by
  pointwise [val_main_v68, val_main_v69, val_main_v70, val_main_v71, val_main_v72, val_main_v73, val_main_v74, val_main_v75, val_main_v76, val_main_v77, val_main_v78, val_main_cst_9, val_main_cst_10]
  exact half _ (fun n => rounds_pos (start_pos xr wr wn b p) 1 m n) n (fun x => val_main_v67 (F := Ideal) x0 x1 x2 (ix4 b p m x)) fun x => round1 x0 xr h0 x1 wr h1 x2 wn h2 b p m x

/-- Round 2, the columns divided. -/
theorem round2 (b : Fin 4) (p : Fin 1024) (m : Fin 32) (n : Fin 288) :
    val_main_v89 (F := Ideal) x0 x1 x2 (ix4 b p m n) = ((Real.log (rounds (start xr wr wn b p) 2 m n) : ℝ) : EReal) := by
  pointwise [val_main_v79, val_main_v80, val_main_v81, val_main_v82, val_main_v83, val_main_v84, val_main_v85, val_main_v86, val_main_v87, val_main_v88, val_main_v89, val_main_cst_11, val_main_cst_12]
  exact half _ (fun m => rowNorm_pos (rounds_pos (start_pos xr wr wn b p) 1) m n) m (fun x => val_main_v78 (F := Ideal) x0 x1 x2 (ix4 b p x n)) fun x => rows2 x0 xr h0 x1 wr h1 x2 wn h2 b p x n

/-- Round 3, the rows divided. -/
theorem rows3 (b : Fin 4) (p : Fin 1024) (m : Fin 32) (n : Fin 288) :
    val_main_v100 (F := Ideal) x0 x1 x2 (ix4 b p m n) = ((Real.log (rowNorm (rounds (start xr wr wn b p) 2) m n) : ℝ) : EReal) := by
  pointwise [val_main_v90, val_main_v91, val_main_v92, val_main_v93, val_main_v94, val_main_v95, val_main_v96, val_main_v97, val_main_v98, val_main_v99, val_main_v100, val_main_cst_13, val_main_cst_14]
  exact half _ (fun n => rounds_pos (start_pos xr wr wn b p) 2 m n) n (fun x => val_main_v89 (F := Ideal) x0 x1 x2 (ix4 b p m x)) fun x => round2 x0 xr h0 x1 wr h1 x2 wn h2 b p m x

/-- Round 3, the columns divided. -/
theorem round3 (b : Fin 4) (p : Fin 1024) (m : Fin 32) (n : Fin 288) :
    val_main_v111 (F := Ideal) x0 x1 x2 (ix4 b p m n) = ((Real.log (rounds (start xr wr wn b p) 3 m n) : ℝ) : EReal) := by
  pointwise [val_main_v101, val_main_v102, val_main_v103, val_main_v104, val_main_v105, val_main_v106, val_main_v107, val_main_v108, val_main_v109, val_main_v110, val_main_v111, val_main_cst_15, val_main_cst_16]
  exact half _ (fun m => rowNorm_pos (rounds_pos (start_pos xr wr wn b p) 2) m n) m (fun x => val_main_v100 (F := Ideal) x0 x1 x2 (ix4 b p x n)) fun x => rows3 x0 xr h0 x1 wr h1 x2 wn h2 b p x n

/-- Round 4, the rows divided. -/
theorem rows4 (b : Fin 4) (p : Fin 1024) (m : Fin 32) (n : Fin 288) :
    val_main_v122 (F := Ideal) x0 x1 x2 (ix4 b p m n) = ((Real.log (rowNorm (rounds (start xr wr wn b p) 3) m n) : ℝ) : EReal) := by
  pointwise [val_main_v112, val_main_v113, val_main_v114, val_main_v115, val_main_v116, val_main_v117, val_main_v118, val_main_v119, val_main_v120, val_main_v121, val_main_v122, val_main_cst_17, val_main_cst_18]
  exact half _ (fun n => rounds_pos (start_pos xr wr wn b p) 3 m n) n (fun x => val_main_v111 (F := Ideal) x0 x1 x2 (ix4 b p m x)) fun x => round3 x0 xr h0 x1 wr h1 x2 wn h2 b p m x

/-- Round 4, the columns divided. -/
theorem round4 (b : Fin 4) (p : Fin 1024) (m : Fin 32) (n : Fin 288) :
    val_main_v133 (F := Ideal) x0 x1 x2 (ix4 b p m n) = ((Real.log (rounds (start xr wr wn b p) 4 m n) : ℝ) : EReal) := by
  pointwise [val_main_v123, val_main_v124, val_main_v125, val_main_v126, val_main_v127, val_main_v128, val_main_v129, val_main_v130, val_main_v131, val_main_v132, val_main_v133, val_main_cst_19, val_main_cst_20]
  exact half _ (fun m => rowNorm_pos (rounds_pos (start_pos xr wr wn b p) 3) m n) m (fun x => val_main_v122 (F := Ideal) x0 x1 x2 (ix4 b p x n)) fun x => rows4 x0 xr h0 x1 wr h1 x2 wn h2 b p x n

/-- Round 5, the rows divided. -/
theorem rows5 (b : Fin 4) (p : Fin 1024) (m : Fin 32) (n : Fin 288) :
    val_main_v144 (F := Ideal) x0 x1 x2 (ix4 b p m n) = ((Real.log (rowNorm (rounds (start xr wr wn b p) 4) m n) : ℝ) : EReal) := by
  pointwise [val_main_v134, val_main_v135, val_main_v136, val_main_v137, val_main_v138, val_main_v139, val_main_v140, val_main_v141, val_main_v142, val_main_v143, val_main_v144, val_main_cst_21, val_main_cst_22]
  exact half _ (fun n => rounds_pos (start_pos xr wr wn b p) 4 m n) n (fun x => val_main_v133 (F := Ideal) x0 x1 x2 (ix4 b p m x)) fun x => round4 x0 xr h0 x1 wr h1 x2 wn h2 b p m x

/-- Round 5, the columns divided. -/
theorem round5 (b : Fin 4) (p : Fin 1024) (m : Fin 32) (n : Fin 288) :
    val_main_v155 (F := Ideal) x0 x1 x2 (ix4 b p m n) = ((Real.log (rounds (start xr wr wn b p) 5 m n) : ℝ) : EReal) := by
  pointwise [val_main_v145, val_main_v146, val_main_v147, val_main_v148, val_main_v149, val_main_v150, val_main_v151, val_main_v152, val_main_v153, val_main_v154, val_main_v155, val_main_cst_23, val_main_cst_24]
  exact half _ (fun m => rowNorm_pos (rounds_pos (start_pos xr wr wn b p) 4) m n) m (fun x => val_main_v144 (F := Ideal) x0 x1 x2 (ix4 b p x n)) fun x => rows5 x0 xr h0 x1 wr h1 x2 wn h2 b p x n

/-- Round 6, the rows divided. -/
theorem rows6 (b : Fin 4) (p : Fin 1024) (m : Fin 32) (n : Fin 288) :
    val_main_v166 (F := Ideal) x0 x1 x2 (ix4 b p m n) = ((Real.log (rowNorm (rounds (start xr wr wn b p) 5) m n) : ℝ) : EReal) := by
  pointwise [val_main_v156, val_main_v157, val_main_v158, val_main_v159, val_main_v160, val_main_v161, val_main_v162, val_main_v163, val_main_v164, val_main_v165, val_main_v166, val_main_cst_25, val_main_cst_26]
  exact half _ (fun n => rounds_pos (start_pos xr wr wn b p) 5 m n) n (fun x => val_main_v155 (F := Ideal) x0 x1 x2 (ix4 b p m x)) fun x => round5 x0 xr h0 x1 wr h1 x2 wn h2 b p m x

/-- Round 6, the columns divided. -/
theorem round6 (b : Fin 4) (p : Fin 1024) (m : Fin 32) (n : Fin 288) :
    val_main_v177 (F := Ideal) x0 x1 x2 (ix4 b p m n) = ((Real.log (rounds (start xr wr wn b p) 6 m n) : ℝ) : EReal) := by
  pointwise [val_main_v167, val_main_v168, val_main_v169, val_main_v170, val_main_v171, val_main_v172, val_main_v173, val_main_v174, val_main_v175, val_main_v176, val_main_v177, val_main_cst_27, val_main_cst_28]
  exact half _ (fun m => rowNorm_pos (rounds_pos (start_pos xr wr wn b p) 5) m n) m (fun x => val_main_v166 (F := Ideal) x0 x1 x2 (ix4 b p x n)) fun x => rows6 x0 xr h0 x1 wr h1 x2 wn h2 b p x n

/-- Round 7, the rows divided. -/
theorem rows7 (b : Fin 4) (p : Fin 1024) (m : Fin 32) (n : Fin 288) :
    val_main_v188 (F := Ideal) x0 x1 x2 (ix4 b p m n) = ((Real.log (rowNorm (rounds (start xr wr wn b p) 6) m n) : ℝ) : EReal) := by
  pointwise [val_main_v178, val_main_v179, val_main_v180, val_main_v181, val_main_v182, val_main_v183, val_main_v184, val_main_v185, val_main_v186, val_main_v187, val_main_v188, val_main_cst_29, val_main_cst_30]
  exact half _ (fun n => rounds_pos (start_pos xr wr wn b p) 6 m n) n (fun x => val_main_v177 (F := Ideal) x0 x1 x2 (ix4 b p m x)) fun x => round6 x0 xr h0 x1 wr h1 x2 wn h2 b p m x

/-- Round 7, the columns divided. -/
theorem round7 (b : Fin 4) (p : Fin 1024) (m : Fin 32) (n : Fin 288) :
    val_main_v199 (F := Ideal) x0 x1 x2 (ix4 b p m n) = ((Real.log (rounds (start xr wr wn b p) 7 m n) : ℝ) : EReal) := by
  pointwise [val_main_v189, val_main_v190, val_main_v191, val_main_v192, val_main_v193, val_main_v194, val_main_v195, val_main_v196, val_main_v197, val_main_v198, val_main_v199, val_main_cst_31, val_main_cst_32]
  exact half _ (fun m => rowNorm_pos (rounds_pos (start_pos xr wr wn b p) 6) m n) m (fun x => val_main_v188 (F := Ideal) x0 x1 x2 (ix4 b p x n)) fun x => rows7 x0 xr h0 x1 wr h1 x2 wn h2 b p x n

/-- The attention. -/
theorem v200_at (b : Fin 4) (p : Fin 1024) (m : Fin 32) (n : Fin 288) :
    val_main_v200 (F := Ideal) x0 x1 x2 (ix4 b p m n) = ((attn (patch xr b (rowOf p) (colOf p)) (kern wr) wn m n : ℝ) : EReal) := by
  pointwise [val_main_v200]
  rw [round7 x0 xr h0 x1 wr h1 x2 wn h2, Ideal.exp_coe, Real.exp_log (rounds_pos (start_pos xr wr wn b p) 7 m n)]
  rfl

end Cert.ReferenceIdeal.Stage

end
-- ==== Proof.RefOut.lean ====
/- The reference's result, at an index: the output poses, centred, divided by their standard deviation, scaled and shifted. -/
module

public import proofs.«01_k».proof.Proof.RefRounds

@[expose] public section

set_option backward.proofsInPublic true
set_option maxRecDepth 16384
set_option maxHeartbeats 1600000

noncomputable section

namespace Cert.ReferenceIdeal.Stage

open Idealize.ShloMosaic Idealize.ShloMosaic.TcCoe
open Cert.ReferenceIdeal Cert.ReferenceIdeal.Read Cert.Spec

variable (x0 : FVec Ideal S4x32x32x32x16 .f32) (xr : Fin 4 → Fin 32 → Fin 32 → Fin 32 → Fin 16 → ℝ)
  (h0 : ∀ b c h w e, x0 (ix5 b c h w e) = ((xr b c h w e : ℝ) : EReal))
variable (x1 : FVec Ideal S3x3x32x4x4 .f32) (wr : Fin 3 → Fin 3 → Fin 32 → Fin 4 → Fin 4 → ℝ)
  (h1 : ∀ i j c a b, x1 (ix5 i j c a b) = ((wr i j c a b : ℝ) : EReal))
variable (x2 : FVec Ideal S32x4x4 .f32) (wn : Fin 32 → Fin 4 → Fin 4 → ℝ)
  (h2 : ∀ m a b, x2 (ix3 m a b) = ((wn m a b : ℝ) : EReal))

include h0 h1 h2

/-- The votes weighted by the attention. -/
theorem v201_at (b : Fin 4) (p : Fin 1024) (m : Fin 32) (i j : Fin 4) :
    val_main_v201 (F := Ideal) x0 x1 x2 (ix5 b p i j m) = ((gathered (patch xr b (rowOf p) (colOf p)) (kern wr) wn m (at4 i j) : ℝ) : EReal) := by
  have h200 := v200_at x0 xr h0 x1 wr h1 x2 wn h2
  pointwise [val_main_v201]
  simp only [h200, v25_at x1 wr h1 x0 xr h0, ← EReal.coe_mul, Consts.coe_sum, gathered]
  exact congrArg _ (Finset.sum_congr rfl fun x _ => mul_comm _ _)

/-- The output poses. -/
theorem v205_at (b : Fin 4) (m h w : Fin 32) (e : Fin 16) :
    val_main_v205 (F := Ideal) x0 x1 x2 (ix5 b m h w e) = ((pose (patch xr b h w) (kern wr) wn m e : ℝ) : EReal) := by
  pointwise [val_main_v205, val_main_v204, val_main_v203, val_main_v202]
  have hr : rowOf ⟨h.val * 32 + w.val, by omega⟩ = h := Fin.ext (by simp only [rowOf]; omega)
  have hc : colOf ⟨h.val * 32 + w.val, by omega⟩ = w := Fin.ext (by simp only [colOf]; omega)
  simp only [h2, v201_at x0 xr h0 x1 wr h1 x2 wn h2, hr, hc, ← EReal.coe_mul, Consts.coe_sum, pose]
  rfl

/-- The means of the output poses. -/
theorem v209_at (b : Fin 4) (m h w : Fin 32) (z : Fin 1) :
    val_main_v209 (F := Ideal) x0 x1 x2 (ix5 b m h w z) = ((mean (patch xr b h w) (kern wr) wn m : ℝ) : EReal) := by
  pointwise [val_main_v209, val_main_v208, val_main_v207, val_main_v206, val_main_cst_33, val_main_cst_34]
  simp only [v205_at x0 xr h0 x1 wr h1 x2 wn h2, Consts.coe_sum]
  rw [Consts.ofBits_16, Consts.div_coe' (by norm_num), mean]

/-- The variances of the output poses. -/
theorem v210_at (b : Fin 4) (m h w : Fin 32) (z : Fin 1) :
    val_main_v210 (F := Ideal) x0 x1 x2 (ix5 b m h w z) = ((var (patch xr b h w) (kern wr) wn m : ℝ) : EReal) := by
  have hn : Ideal.ofBits .f32 0x41800000#32 - (FloatOps.sitofp .f32 (0#32 : BitVec 32) : Ideal .f32) = ((16 : ℝ) : EReal) := by
    rw [Consts.ofBits_16]
    show ((16 : ℝ) : EReal) - ((((0#32 : BitVec 32).toInt : ℝ)) : EReal) = _
    simp
  pointwise [val_main_v210, val_main_call1_v0, val_main_call1_v1, val_main_call1_v2, val_main_call1_v3, val_main_call1_v4, val_main_call1_v5, val_main_call1_v6, val_main_call1_v7, val_main_call1_v8, val_main_call1_v9, val_main_call1_v10, val_main_call1_v11, val_main_call1_v12, val_main_call1_v13, val_main_call1_cst, val_main_call1_cst_0, val_main_call1_cst_1, val_main_call1_cst_2, val_main_call1_cst_3, val_main_call1_cst_4, val_main_call1_call0_v0, val_main_call1_call0_v1, val_main_c_35]
  have h16 : (0 : EReal) < ((16 : ℝ) : EReal) := by exact_mod_cast (by norm_num : (0 : ℝ) < 16)
  have hm : (∑ e, pose (patch xr b h w) (kern wr) wn m e) / 16 = mean (patch xr b h w) (kern wr) wn m := rfl
  rw [hn, if_pos h16]
  simp only [v205_at x0 xr h0 x1 wr h1 x2 wn h2, Consts.coe_sum, Consts.ofBits_16, Consts.div_coe' (show (16 : ℝ) ≠ 0 by norm_num), hm, Consts.sub_coe, ← EReal.coe_mul]
  rfl

/-- The result. -/
theorem v223_at (x3 x4 : FVec Ideal S16 .f32) (b : Fin 4) (m h w : Fin 32) (e : Fin 16) :
    val_main_v223 (F := Ideal) x0 x1 x2 x3 x4 (ix5 b m h w e)
      = ((normed (patch xr b h w) (kern wr) wn Consts.eps m e : ℝ) : EReal) * x3 (ix1 e) + x4 (ix1 e) := by
  pointwise [val_main_v211, val_main_v212, val_main_v213, val_main_v214, val_main_v215, val_main_v216, val_main_v217, val_main_v218, val_main_v219, val_main_v220, val_main_v221, val_main_v222, val_main_v223, val_main_cst_36]
  have hp : 0 < var (patch xr b h w) (kern wr) wn m + Consts.eps := add_pos_of_nonneg_of_pos (var_nonneg ..) Consts.eps_pos
  rw [v205_at x0 xr h0 x1 wr h1 x2 wn h2, v209_at x0 xr h0 x1 wr h1 x2 wn h2, v210_at x0 xr h0 x1 wr h1 x2 wn h2, Consts.ofBits_eps, ← EReal.coe_add,
    Ideal.sqrt_coe, if_neg (not_lt.2 hp.le), Consts.sub_coe, Consts.div_coe' (Real.sqrt_pos.2 hp).ne', normed, div_eq_mul_inv]

end Cert.ReferenceIdeal.Stage

end
-- ==== Proof.Finite.lean ====
/- The precondition: the image and the two weights are finite, read as: each of their elements is a real number. -/
module

public import proofs.«01_k».proof.Pre_finite
public import proofs.«01_k».proof.Proof.Consts
public import Idealize.ShloMosaic.Lib.Pointwise
public import Idealize.ShloMosaic.Lib.ReduceAll

@[expose] public section

set_option backward.proofsInPublic true
set_option maxRecDepth 16384

noncomputable section

namespace Cert.Pre_finite.Gen

open Idealize.ShloMosaic Cert.Pre_finite

/-- The predicate's side conditions hold. -/
theorem facts : Facts where
  bcast_S_S4x32x32x32x16 := by decide
  reducesTo_S4x32x32x32x16_S_d0_1_2_3_4 := by decide
  h_S_ := by decide
  bcast_S_S3x3x32x4x4 := by decide
  reducesTo_S3x3x32x4x4_S_d0_1_2_3_4 := by decide
  bcast_S_S32x4x4 := by decide
  reducesTo_S32x4x4_S_d0_1_2 := by decide

/-- An extended real of absolute value below the largest is real. -/
theorem real_of_abs (a : EReal) (h : max a (-a) < ⊤) : a = ((a.toReal : ℝ) : EReal) := by
  induction a using EReal.rec with
  | bot => simp at h
  | coe r => rfl
  | top => simp at h

variable [Facts]

/-- Where the comparison with the largest holds everywhere, every element is real. -/
theorem real_of_all {s : Shape} (hs : (⟨0, ![]⟩ : Shape).BroadcastsInDim s (![] : Fin 0 → Fin s.rank)) (x : FVec Ideal s .f32) (dims : List (Fin s.rank))
    (hr : s.ReducesTo dims ⟨0, ![]⟩) (h0 : 0 < (⟨0, ![]⟩ : Shape).numel)
    (e : Host.reduce IntOp.andi (cmpf .olt (Host.absf x) (broadcastInDim s ![] hs (constant (F := Ideal) ⟨0, ![]⟩ .f32 0x7F800000#32)))
      (constantI ⟨0, ![]⟩ 1 1#1) hr h0 (fun k => k.elim0) = 1#1) (i : s.Idx) : x i = (((x i).toReal : ℝ) : EReal) := by
  have h := Host.reduce_andi_all _ _ _ _ _ e i
  refine real_of_abs _ ?_
  pointwise at h
  rw [Consts.ofBits_top] at h
  have hd : decide (FloatOps.absf (x i) < (⊤ : EReal)) = true := by
    cases hb : decide (FloatOps.absf (x i) < (⊤ : EReal)) with
    | true => rfl
    | false => rw [hb] at h; exact absurd h (by decide)
  exact of_decide_eq_true hd

/-- The precondition's three parts: every element of the image, of the kernels and of the pose maps is real. -/
theorem reals (x0 : FVec Ideal S4x32x32x32x16 .f32) (x1 : FVec Ideal S3x3x32x4x4 .f32) (x2 : FVec Ideal S32x4x4 .f32) (x3 x4 : FVec Ideal S16 .f32)
    (e : fn (F := Ideal) x0 x1 x2 x3 x4 (fun k => k.elim0) = 1#1) :
    (∀ i, x0 i = (((x0 i).toReal : ℝ) : EReal)) ∧ (∀ i, x1 i = (((x1 i).toReal : ℝ) : EReal)) ∧ (∀ i, x2 i = (((x2 i).toReal : ℝ) : EReal)) := by
  have h := IntOp.andi_eq_one.1 e
  have h' := IntOp.andi_eq_one.1 h.1
  exact ⟨real_of_all _ _ _ _ _ h'.1, real_of_all _ _ _ _ _ h'.2, real_of_all _ _ _ _ _ h.2⟩

end Cert.Pre_finite.Gen

end
-- ==== Proof.Algebraic.lean ====
/- The value claim: on finite image and weights, the kernel and the reference leave the same array, the layer's result. -/
module

public import proofs.«01_k».proof.Defs
public import proofs.«01_k».proof.Proof.Value
public import proofs.«01_k».proof.Proof.RefOut
public import proofs.«01_k».proof.Proof.Finite
public import proofs.«01_k».proof.Proof.Gen.KernelIdeal.Frame
public import proofs.«01_k».proof.Proof.Gen.ReferenceIdeal.Run
public import Idealize.ShloMosaic.Lib.Claim

@[expose] public section

set_option backward.proofsInPublic true
set_option maxRecDepth 16384
set_option maxHeartbeats 1600000

noncomputable section

namespace Cert.Proof

open Idealize.ShloMosaic Idealize.ShloMosaic.TcCoe Idealize.ShloMosaic.StableHlo Idealize.SL.Sem

/-- The reference's result array is the layer's. -/
theorem reference_result (x0 : FVec Ideal Cert.ReferenceIdeal.S4x32x32x32x16 .f32) (xr : Fin 4 → Fin 32 → Fin 32 → Fin 32 → Fin 16 → ℝ)
    (h0 : ∀ b c h w e, x0 (ix5 b c h w e) = ((xr b c h w e : ℝ) : EReal))
    (x1 : FVec Ideal Cert.ReferenceIdeal.S3x3x32x4x4 .f32) (wr : Fin 3 → Fin 3 → Fin 32 → Fin 4 → Fin 4 → ℝ)
    (h1 : ∀ i j c a b, x1 (ix5 i j c a b) = ((wr i j c a b : ℝ) : EReal))
    (x2 : FVec Ideal Cert.ReferenceIdeal.S32x4x4 .f32) (wn : Fin 32 → Fin 4 → Fin 4 → ℝ)
    (h2 : ∀ m a b, x2 (ix3 m a b) = ((wn m a b : ℝ) : EReal)) (x3 x4 : FVec Ideal Cert.ReferenceIdeal.S16 .f32) :
    Cert.ReferenceIdeal.Read.val_main_v223 (F := Ideal) x0 x1 x2 x3 x4 = Cert.KernelIdeal.Value.result xr wr wn x3 x4 := by
  funext i
  idx_vars i
  exact Cert.ReferenceIdeal.Stage.v223_at x0 xr h0 x1 wr h1 x2 wn h2 x3 x4 ..

variable [Cert.Pre_finite.Facts]

/-- The kernel and the reference, run on the same finite image and weights, leave the same result. -/
theorem algebraic : Cert.algebraic_KernelIdeal_ReferenceIdeal_pre_finite (hKernelIdeal := Cert.KernelIdeal.Gen.facts) (hReferenceIdeal := Cert.ReferenceIdeal.Gen.facts) := by
  pair_intro
  · run_from Cert.KernelIdeal.Gen.run_main m g
  · have hr := fun c => Cert.Pre_finite.Gen.reals _ _ _ _ _ (congrFun (hpre c) _)
    refine (θ_run Cert.ReferenceIdeal.defs _ _).mono (fun _ h c => ⟨(h c).1.trans ?_, (h c).2⟩) (Cert.ReferenceIdeal.Value.run (F := Ideal) m' g')
    obtain ⟨a0, a1, a2, a3, a4⟩ := hagree c
    refine (Cert.ReferenceIdeal.Read.val_main_v223_eq (launchContents m' c)).trans ?_
    refine Eq.trans (?_ : _ = Cert.ReferenceIdeal.Read.val_main_v223 (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1)) (m ((c : Thread Cert.KernelIdeal.nD Cert.KernelIdeal.τ).loc Cert.KernelIdeal.main_arg2))
      (m ((c : Thread Cert.KernelIdeal.nD Cert.KernelIdeal.τ).loc Cert.KernelIdeal.main_arg3)) (m ((c : Thread Cert.KernelIdeal.nD Cert.KernelIdeal.τ).loc Cert.KernelIdeal.main_arg4))) ?_
    · rw [← a0, ← a1, ← a2, ← a3, ← a4]
    · refine (reference_result _ _ (fun _ _ _ _ _ => (hr c).1 _) _ _ (fun _ _ _ _ _ => (hr c).2.1 _) _ _ (fun _ _ _ => (hr c).2.2 _) _ _).trans ?_
      exact (Cert.KernelIdeal.Value.final m c _ _ _ (fun _ _ _ _ _ => (hr c).1 _) (fun _ _ _ _ _ => (hr c).2.1 _) (fun _ _ _ => (hr c).2.2 _)).symm

end Cert.Proof

end
-- ==== Proof.lean ====
module

public import proofs.«01_k».proof.Defs
public import proofs.«01_k».proof.Proof.Algebraic
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-- The reference runs from any memory, leaves its arguments as they were, and ends with every counter at zero. -/
theorem reference_frame : Cert.quiescent_ReferenceIdeal (hReferenceIdeal := Cert.ReferenceIdeal.Gen.facts) := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- Every claim of the certificate. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g,
    fun m g _ => Cert.KernelIdeal.Gen.frame m g,
    fun m g _ => Cert.KernelIdeal.Gen.frame m g,
    reference_frame,
    fun m g _ => reference_frame m g trivial,
    IdealRules.named_const.statement Cert.KernelIdeal.κ "third" .f32 0x3EAAAAAB#32 (((1 / 3 : ℝ)) : EReal) rfl,
    letI := Cert.Pre_finite.Gen.facts; algebraic⟩

end Cert.Proof

end
